-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_table_KernelIdeal [hPre_in_table_KernelIdeal : Cert.Pre_in_table_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_table_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_table_ReferenceIdeal [hPre_in_table_ReferenceIdeal : Cert.Pre_in_table_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_table_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_table_KernelIdeal [hKernelIdeal : Cert.KernelIdeal.Facts] [hPre_in_table_KernelIdeal : Cert.Pre_in_table_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_table_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_table_ReferenceIdeal [hReferenceIdeal : Cert.ReferenceIdeal.Facts] [hPre_in_table_ReferenceIdeal : Cert.Pre_in_table_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_table_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_table_KernelIdeal [hKernelIdeal : Cert.KernelIdeal.Facts] [hReferenceIdeal : Cert.ReferenceIdeal.Facts] [hPre_in_table_KernelIdeal : Cert.Pre_in_table_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_table_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![4096, 512]⟩ ⟨2, ![8192, 512]⟩ (Layout.meshBlock [2, 2] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_table_KernelIdeal : Cert.Pre_in_table_KernelIdeal.Facts) (hPre_in_table_ReferenceIdeal : Cert.Pre_in_table_ReferenceIdeal.Facts),
    quiescent_Kernel (hKernel := hKernel)
    ∧ quiescent_KernelIdeal (hKernelIdeal := hKernelIdeal)
    ∧ quiescent_KernelIdeal_pre_in_table_KernelIdeal (hKernelIdeal := hKernelIdeal) (hPre_in_table_KernelIdeal := hPre_in_table_KernelIdeal)
    ∧ quiescent_ReferenceIdeal (hReferenceIdeal := hReferenceIdeal)
    ∧ quiescent_ReferenceIdeal_pre_in_table_ReferenceIdeal (hReferenceIdeal := hReferenceIdeal) (hPre_in_table_ReferenceIdeal := hPre_in_table_ReferenceIdeal)
    ∧ preserves_Kernel_KernelIdeal
    ∧ algebraic_KernelIdeal_ReferenceIdeal_pre_in_table_KernelIdeal (hKernelIdeal := hKernelIdeal) (hReferenceIdeal := hReferenceIdeal) (hPre_in_table_KernelIdeal := hPre_in_table_KernelIdeal)
-- ==== Pre_in_table_KernelIdeal.lean ====
abbrev S512 : Shape := ⟨1, ![512]⟩
abbrev S4096x512 : Shape := ⟨2, ![4096, 512]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel

variable [Facts]

def fn {F : FTy → Type} [FloatOps F] (main_arg0 : IVec S512 32) (main_arg1 : FVec F S4096x512 .f32) : IVec S_ 1 :=
  let main_c : IVec S_ 32 := constantI S_ 32 0#32
  let main_v0 : IVec S512 32 := broadcastInDim S512 ![] bcast_S_S512 main_c
  let main_v1 : IVec S512 1 := cmpi .sge main_arg0 main_v0
  let main_c_0 : IVec S_ 32 := constantI S_ 32 8192#32
  let main_v2 : IVec S512 32 := broadcastInDim S512 ![] bcast_S_S512 main_c_0
  let main_v3 : IVec S512 1 := cmpi .slt main_arg0 main_v2
  let main_v4 : IVec S512 1 := andi main_v1 main_v3
  let main_c_1 : IVec S_ 1 := constantI S_ 1 1#1
  let main_v5 : IVec S_ 1 := (fun x v => Host.reduce IntOp.andi x v reducesTo_S512_S_d0 h_S_) main_v4 main_c_1
  main_v5
-- ==== Pre_in_table_ReferenceIdeal.lean ====
abbrev S512 : Shape := ⟨1, ![512]⟩
abbrev S8192x512 : Shape := ⟨2, ![8192, 512]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel

variable [Facts]

def fn {F : FTy → Type} [FloatOps F] (main_arg0 : IVec S512 32) (main_arg1 : FVec F S8192x512 .f32) : IVec S_ 1 :=
  let main_c : IVec S_ 32 := constantI S_ 32 0#32
  let main_v0 : IVec S512 32 := broadcastInDim S512 ![] bcast_S_S512 main_c
  let main_v1 : IVec S512 1 := cmpi .sge main_arg0 main_v0
  let main_c_0 : IVec S_ 32 := constantI S_ 32 8192#32
  let main_v2 : IVec S512 32 := broadcastInDim S512 ![] bcast_S_S512 main_c_0
  let main_v3 : IVec S512 1 := cmpi .slt main_arg0 main_v2
  let main_v4 : IVec S512 1 := andi main_v1 main_v3
  let main_c_1 : IVec S_ 1 := constantI S_ 1 1#1
  let main_v5 : IVec S_ 1 := (fun x v => Host.reduce IntOp.andi x v reducesTo_S512_S_d0 h_S_) main_v4 main_c_1
  main_v5
-- ==== Kernel.lean ====
abbrev S512 : Shape := ⟨1, ![512]⟩
abbrev S4096x512 : Shape := ⟨2, ![4096, 512]⟩
abbrev S512x1 : Shape := ⟨2, ![512, 1]⟩
abbrev S512x512 : Shape := ⟨2, ![512, 512]⟩
abbrev S4x64x512 : Shape := ⟨3, ![4, 64, 512]⟩
abbrev S8 : Shape := ⟨1, ![8]⟩
abbrev S4 : Shape := ⟨1, ![4]⟩
abbrev S1 : Shape := ⟨1, ![1]⟩
abbrev S_ : Shape := ⟨0, ![]⟩
abbrev S64x4096 : Shape := ⟨2, ![64, 4096]⟩
abbrev S64x1 : Shape := ⟨2, ![64, 1]⟩
abbrev S64x512 : Shape := ⟨2, ![64, 512]⟩
abbrev S1x64x512 : Shape := ⟨3, ![1, 64, 512]⟩

abbrev nBuf : Space → Nat
  | .hbm => 4
  | .vmem => 7
  | .smem => 0
  | _ => 0

abbrev bufTy : (tb : Table) → Fin (tcTables nBuf tb) → BufTy
  | .hbm, ⟨0, _⟩ => ⟨S512, .i32⟩
  | .hbm, ⟨1, _⟩ => ⟨S4096x512, .f32⟩
  | .hbm, ⟨2, _⟩ => ⟨S512x1, .i32⟩
  | .hbm, ⟨3, _⟩ => ⟨S512x512, .f32⟩
  | .local _ .vmem, ⟨0, _⟩ => ⟨S512x1, .i32⟩
  | .local _ .vmem, ⟨1, _⟩ => ⟨S512x512, .f32⟩
  | .local _ .vmem, ⟨2, _⟩ => ⟨S4096x512, .f32⟩
  | .local _ .vmem, ⟨3, _⟩ => ⟨S4x64x512, .bf16⟩
  | .local _ .vmem, ⟨4, _⟩ => ⟨S4x64x512, .bf16⟩
  | .local _ .vmem, ⟨5, _⟩ => ⟨S4x64x512, .bf16⟩
  | .local _ .vmem, ⟨6, _⟩ => ⟨S4x64x512, .bf16⟩
  | _, _ => ⟨S512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_34 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_33 : BitVec 32 := 2#32
  let v43 : BitVec 32 := Scalar.muli v2 c2_i32_33
  let v44 : BitVec 32 := Scalar.addi c0_i32_34 v43
  let c1_i32_31 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v42 : BitVec 32 := Scalar.subi c1_i32_31 v5
  let c1_i32_35 : BitVec 32 := 1#32
  let v45 : BitVec 32 := Scalar.muli v42 c1_i32_35
  let v46 : BitVec 32 := Scalar.addi v44 v45
  v46.toNat
def k0_dev2 (d0 : Dev nD) : Nat :=
  let c0_i32_39 : BitVec 32 := 0#32
  let c1_i32_36 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v47 : BitVec 32 := Scalar.subi c1_i32_36 v2
  let c2_i32_38 : BitVec 32 := 2#32
  let v48 : BitVec 32 := Scalar.muli v47 c2_i32_38
  let v49 : BitVec 32 := Scalar.addi c0_i32_39 v48
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_40 : BitVec 32 := 1#32
  let v50 : BitVec 32 := Scalar.muli v5 c1_i32_40
  let v51 : BitVec 32 := Scalar.addi v49 v50
  v51.toNat
def k0_off1 (d0 : Dev nD) (c0_i32_82 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v6 : BitVec 32 := Scalar.muli v2 c256_i32
  let v87 : BitVec 32 := Scalar.addi v6 c0_i32_82
  let v88 : Index := Scalar.indexCast v87
  let c0_83 : Index := 0#32
  ![v88.toNat, 0]
def k0_off2 (d0 : Dev nD) (c0_i32_94 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v6 : BitVec 32 := Scalar.muli v2 c256_i32
  let v139 : BitVec 32 := Scalar.addi v6 c0_i32_94
  let v140 : Index := Scalar.indexCast v139
  let c0_95 : Index := 0#32
  ![v140.toNat, 0]
def k0_dev3 (d0 : Dev nD) : Nat :=
  let c0_i32_105 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_104 : BitVec 32 := 2#32
  let v147 : BitVec 32 := Scalar.muli v2 c2_i32_104
  let v148 : BitVec 32 := Scalar.addi c0_i32_105 v147
  let c1_i32_99 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v146 : BitVec 32 := Scalar.subi c1_i32_99 v5
  let c1_i32_106 : BitVec 32 := 1#32
  let v149 : BitVec 32 := Scalar.muli v146 c1_i32_106
  let v150 : BitVec 32 := Scalar.addi v148 v149
  v150.toNat
def k0_dev4 (d0 : Dev nD) : Nat :=
  let c0_i32_121 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_120 : BitVec 32 := 2#32
  let v167 : BitVec 32 := Scalar.muli v2 c2_i32_120
  let v168 : BitVec 32 := Scalar.addi c0_i32_121 v167
  let c1_i32_115 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v166 : BitVec 32 := Scalar.subi c1_i32_115 v5
  let c1_i32_122 : BitVec 32 := 1#32
  let v169 : BitVec 32 := Scalar.muli v166 c1_i32_122
  let v170 : BitVec 32 := Scalar.addi v168 v169
  v170.toNat
def k0_dev5 (d0 : Dev nD) : Nat :=
  let c0_i32_137 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_136 : BitVec 32 := 2#32
  let v187 : BitVec 32 := Scalar.muli v2 c2_i32_136
  let v188 : BitVec 32 := Scalar.addi c0_i32_137 v187
  let c1_i32_131 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v186 : BitVec 32 := Scalar.subi c1_i32_131 v5
  let c1_i32_138 : BitVec 32 := 1#32
  let v189 : BitVec 32 := Scalar.muli v186 c1_i32_138
  let v190 : BitVec 32 := Scalar.addi v188 v189
  v190.toNat
def k0_dev6 (d0 : Dev nD) : Nat :=
  let c0_i32_153 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_152 : BitVec 32 := 2#32
  let v207 : BitVec 32 := Scalar.muli v2 c2_i32_152
  let v208 : BitVec 32 := Scalar.addi c0_i32_153 v207
  let c1_i32_147 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v206 : BitVec 32 := Scalar.subi c1_i32_147 v5
  let c1_i32_154 : BitVec 32 := 1#32
  let v209 : BitVec 32 := Scalar.muli v206 c1_i32_154
  let v210 : BitVec 32 := Scalar.addi v208 v209
  v210.toNat
def k0_dev7 (d0 : Dev nD) : Nat :=
  let c0_i32_185 : BitVec 32 := 0#32
  let c1_i32_179 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v243 : BitVec 32 := Scalar.subi c1_i32_179 v2
  let c2_i32_184 : BitVec 32 := 2#32
  let v244 : BitVec 32 := Scalar.muli v243 c2_i32_184
  let v245 : BitVec 32 := Scalar.addi c0_i32_185 v244
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_186 : BitVec 32 := 1#32
  let v246 : BitVec 32 := Scalar.muli v5 c1_i32_186
  let v247 : BitVec 32 := Scalar.addi v245 v246
  v247.toNat
def k0_dev8 (d0 : Dev nD) : Nat :=
  let c0_i32_217 : BitVec 32 := 0#32
  let c1_i32_211 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v280 : BitVec 32 := Scalar.subi c1_i32_211 v2
  let c2_i32_216 : BitVec 32 := 2#32
  let v281 : BitVec 32 := Scalar.muli v280 c2_i32_216
  let v282 : BitVec 32 := Scalar.addi c0_i32_217 v281
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_218 : BitVec 32 := 1#32
  let v283 : BitVec 32 := Scalar.muli v5 c1_i32_218
  let v284 : BitVec 32 := Scalar.addi v282 v283
  v284.toNat
def k0_dev9 (d0 : Dev nD) : Nat :=
  let c0_i32_249 : BitVec 32 := 0#32
  let c1_i32_243 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v317 : BitVec 32 := Scalar.subi c1_i32_243 v2
  let c2_i32_248 : BitVec 32 := 2#32
  let v318 : BitVec 32 := Scalar.muli v317 c2_i32_248
  let v319 : BitVec 32 := Scalar.addi c0_i32_249 v318
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_250 : BitVec 32 := 1#32
  let v320 : BitVec 32 := Scalar.muli v5 c1_i32_250
  let v321 : BitVec 32 := Scalar.addi v319 v320
  v321.toNat
def k0_dev10 (d0 : Dev nD) : Nat :=
  let c0_i32_281 : BitVec 32 := 0#32
  let c1_i32_275 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v354 : BitVec 32 := Scalar.subi c1_i32_275 v2
  let c2_i32_280 : BitVec 32 := 2#32
  let v355 : BitVec 32 := Scalar.muli v354 c2_i32_280
  let v356 : BitVec 32 := Scalar.addi c0_i32_281 v355
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_282 : BitVec 32 := 1#32
  let v357 : BitVec 32 := Scalar.muli v5 c1_i32_282
  let v358 : BitVec 32 := Scalar.addi v356 v357
  v358.toNat
def k0_off3 (d0 : Dev nD) (c0_i32_287 : BitVec 32) : Fin 2 → Nat :=
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_2 v2
  let c256_i32_3 : BitVec 32 := 256#32
  let v8 : BitVec 32 := Scalar.muli v7 c256_i32_3
  let v367 : BitVec 32 := Scalar.addi v8 c0_i32_287
  let v381 : Index := Scalar.indexCast v367
  let c0_302 : Index := 0#32
  ![v381.toNat, 0]
abbrev stage0_0 : Fin 1 → Memref sig .tc .vmem S512x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512 : Shape := ⟨1, ![512]⟩
abbrev S8192x512 : Shape := ⟨2, ![8192, 512]⟩
abbrev S_ : Shape := ⟨0, ![]⟩
abbrev S512x1 : Shape := ⟨2, ![512, 1]⟩
abbrev S512x512 : Shape := ⟨2, ![512, 512]⟩

abbrev nBuf : Space → Nat
  | .hbm => 11
  | .vmem => 0
  | .smem => 0
  | _ => 0

abbrev bufTy : (tb : Table) → Fin (tcTables nBuf tb) → BufTy
  | .hbm, ⟨0, _⟩ => ⟨S512, .i32⟩
  | .hbm, ⟨1, _⟩ => ⟨S8192x512, .f32⟩
  | .hbm, ⟨2, _⟩ => ⟨S_, .i32⟩
  | .hbm, ⟨3, _⟩ => ⟨S512, .i32⟩
  | .hbm, ⟨4, _⟩ => ⟨S512, .i1⟩
  | .hbm, ⟨5, _⟩ => ⟨S_, .i32⟩
  | .hbm, ⟨6, _⟩ => ⟨S512, .i32⟩
  | .hbm, ⟨7, _⟩ => ⟨S512, .i32⟩
  | .hbm, ⟨8, _⟩ => ⟨S512, .i32⟩
  | .hbm, ⟨9, _⟩ => ⟨S512x1, .i32⟩
  | .hbm, ⟨10, _⟩ => ⟨S512x512, .f32⟩
  | _, _ => ⟨S512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Protocol.lean ====
/-
# The exchange protocol of the embedding lookup on a 2 × 2 mesh

Device `c = (c / 2, c % 2)` holds one half of the table. It copies its half into fast memory (eight local copies, one
semaphore each), looks up the rows of its half of the ids, four chunks of 64 rows, and exchanges each chunk with
its `y` neighbour `yp c` (which holds the other half of the table), then the sums with its `x` neighbour `xp c`
(which works on the other half of the ids).

Every semaphore is used for one round only. Who pays, who waits, and what is handed over:

* barrier of `c`: `yp c` and `xp c` each signal 1; `c` waits for 2. The signal of `yp c` hands over the four slots in which
  `yp c` receives in the `y` exchange; the signal of `xp c` the four slots in which `xp c` receives in the `x` exchange.
* table semaphore `k` of `c`: its own local copy; rows `512 k …` of the fast copy at the table's contents, and the rows of the
  table back.
* `y` send semaphore `k` of `c`: its own remote copy; the slot sent from, back at the rounded partial chunk.
* `y` receive semaphore `k` of `c`: the copy of `yp c`; the slot received in, at the rounded partial chunk of `yp c`.
* `x` send semaphore `k` of `c`: its own remote copy; the slot sent from, back at the rounded sum.
* `x` receive semaphore `k` of `c`: the copy of `xp c`; the slot received in, at the rounded sum of `xp c`.

Levels (a core waits only at a level below all it still owes): table and send semaphores 0, barrier 1, `y` receive 2,
`x` receive 3.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Regions
public import Idealize.ShloMosaic.Lib.Pipeline.RegionTalk
public import Idealize.ShloMosaic.Lib.Pipeline.Kit
public import Idealize.ShloMosaic.Lib.Rounds
public import Idealize.ShloMosaic.Lib.Tactic

@[expose] public section

noncomputable section

namespace Cert.EmbedProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Two copies of the rounds algebra: the pipeline library's and the exchange's. -/
abbrev UX : Type := URounds (GSem nD τ sig) Bool
/-- The ghost state: the pipeline's and the protocol's. -/
abbrev UU : Type := UR sig nD τ × UX

local notation "𝕄" => MT nD τ sig Unit (Elt F) ℕ UU ℕ

/-- Where the pipeline's lives. -/
abbrev EP : Emb (UR sig nD τ) (MT nD τ sig Unit (Elt F) ℕ UU ℕ) := embL
/-- Where the protocol's lives. -/
abbrev ER : Emb UX (MT nD τ sig Unit (Elt F) ℕ UU ℕ) := embR

variable (m : (ℓ : Loc nD τ sig) → Buf (Elt F) ℓ) (ρ : Dev nD → PrngReg)

/-! ## Neighbours -/

/-- The neighbour along `y`: the same half of the ids, the other half of the table. -/
def yp (c : Dev nD) : Dev nD := ⟨(2 * (c.val / 2) + 1) - c.val % 2, by revert c; decide⟩
/-- The neighbour along `x`: the other half of the ids, the same half of the table. -/
def xp (c : Dev nD) : Dev nD := ⟨(c.val % 2 + 2) - 2 * (c.val / 2), by revert c; decide⟩

/-- The peer along `y` of the peer along `y` is the device. -/
theorem yp_yp (c : Dev nD) : yp (yp c) = c := by revert c; decide
/-- The peer along `x` of the peer along `x` is the device. -/
theorem xp_xp (c : Dev nD) : xp (xp c) = c := by revert c; decide

/-- The peer along `y`, as the kernel computes it for its first signal. -/
theorem dev1_eq (c : Dev nD) : (⟨k0_dev1 c, k0_dev1_lt c⟩ : Dev nD) = yp c := Fin.ext (k0_dev1_eq c)
/-- The peer along `x`, as the kernel computes it for its second signal. -/
theorem dev2_eq (c : Dev nD) : (⟨k0_dev2 c, k0_dev2_lt c⟩ : Dev nD) = xp c := Fin.ext (k0_dev2_eq c)
/-- The peer along `y`, as the kernel computes it for a send along `y`. -/
theorem dev3_eq (c : Dev nD) : (⟨k0_dev3 c, k0_dev3_lt c⟩ : Dev nD) = yp c := Fin.ext (k0_dev3_eq c)
/-- The peer along `y`, as the kernel computes it for a send along `y`. -/
theorem dev4_eq (c : Dev nD) : (⟨k0_dev4 c, k0_dev4_lt c⟩ : Dev nD) = yp c := Fin.ext (k0_dev4_eq c)
/-- The peer along `y`, as the kernel computes it for a send along `y`. -/
theorem dev5_eq (c : Dev nD) : (⟨k0_dev5 c, k0_dev5_lt c⟩ : Dev nD) = yp c := Fin.ext (k0_dev5_eq c)
/-- The peer along `y`, as the kernel computes it for a send along `y`. -/
theorem dev6_eq (c : Dev nD) : (⟨k0_dev6 c, k0_dev6_lt c⟩ : Dev nD) = yp c := Fin.ext (k0_dev6_eq c)
/-- The peer along `x`, as the kernel computes it for a send along `x`. -/
theorem dev7_eq (c : Dev nD) : (⟨k0_dev7 c, k0_dev7_lt c⟩ : Dev nD) = xp c := Fin.ext (k0_dev7_eq c)
/-- The peer along `x`, as the kernel computes it for a send along `x`. -/
theorem dev8_eq (c : Dev nD) : (⟨k0_dev8 c, k0_dev8_lt c⟩ : Dev nD) = xp c := Fin.ext (k0_dev8_eq c)
/-- The peer along `x`, as the kernel computes it for a send along `x`. -/
theorem dev9_eq (c : Dev nD) : (⟨k0_dev9 c, k0_dev9_lt c⟩ : Dev nD) = xp c := Fin.ext (k0_dev9_eq c)
/-- The peer along `x`, as the kernel computes it for a send along `x`. -/
theorem dev10_eq (c : Dev nD) : (⟨k0_dev10 c, k0_dev10_lt c⟩ : Dev nD) = xp c := Fin.ext (k0_dev10_eq c)

/-- The two neighbour maps as permutations of the devices. -/
def yswap : Dev nD ≃ Dev nD := ⟨yp, yp, yp_yp, yp_yp⟩
/-- Swapping the devices along `x`. -/
def xswap : Dev nD ≃ Dev nD := ⟨xp, xp, xp_xp, xp_xp⟩

/-! ## Buffers, slots, cells -/

/-- The staged column of ids. -/
abbrev idsM : Memref sig .tc .vmem S512x1 .i32 := Memref.whole cc0_stg0_0
/-- The staged result. -/
abbrev outM : Memref sig .tc .vmem S512x512 .f32 := Memref.whole cc0_stg1_0
/-- The half table, where it is launched. -/
abbrev tabM : Memref sig .tc .hbm S4096x512 .f32 := Memref.whole main_arg1
/-- The half table, where it is copied to. -/
abbrev eM : Memref sig .tc .vmem S4096x512 .f32 := Memref.whole cc0_scratch0
/-- Slots to send along `y`. -/
abbrev ysM : Memref sig .tc .vmem S4x64x512 .bf16 := Memref.whole cc0_scratch1
/-- Slots received along `y`. -/
abbrev yrM : Memref sig .tc .vmem S4x64x512 .bf16 := Memref.whole cc0_scratch2
/-- Slots to send along `x`. -/
abbrev xsM : Memref sig .tc .vmem S4x64x512 .bf16 := Memref.whole cc0_scratch3
/-- Slots received along `x`. -/
abbrev xrM : Memref sig .tc .vmem S4x64x512 .bf16 := Memref.whole cc0_scratch4

/-- Slot `k` lies in its buffer. -/
theorem slot_inb {k : ℕ} (hk : k < 4) : ∀ a, (![k, 0, 0] : Fin 3 → ℕ) a + S1x64x512.size a ≤ S4x64x512.size a := by
  have h : ∀ (k : Fin 4) (a : Fin 3), (![k.val, 0, 0] : Fin 3 → ℕ) a + S1x64x512.size a ≤ S4x64x512.size a := by decide
  exact h ⟨k, hk⟩

/-- Tile `k` lies in the table. -/
theorem tile_inb {k : ℕ} (hk : k < 8) : ∀ a, (![512 * k, 0] : Fin 2 → ℕ) a + S512x512.size a ≤ S4096x512.size a := by
  have h : ∀ (k : Fin 8) (a : Fin 2), (![512 * k.val, 0] : Fin 2 → ℕ) a + S512x512.size a ≤ S4096x512.size a := by decide
  exact h ⟨k, hk⟩

/-- Slot `k` of a four-slot buffer. -/
abbrev slotR {k : ℕ} (hk : k < 4) : Rect S4x64x512 := Rect.unit (s := S4x64x512) ![k, 0, 0] S1x64x512.size (slot_inb hk)
/-- The same slot as the two-axis memref the copies name. -/
abbrev slotM (b : Memref sig .tc .vmem S4x64x512 .bf16) {k : ℕ} (hk : k < 4) : Memref sig .tc .vmem S64x512 .bf16 :=
  (b.slice (slotR hk) (fun _ => rfl)).squeeze S64x512 squeezes_S1x64x512_S64x512
/-- Rows `512 k …` of the table's half, and of the fast copy. -/
abbrev tileR {k : ℕ} (hk : k < 8) : Rect S4096x512 := Rect.unit (s := S4096x512) ![512 * k, 0] S512x512.size (tile_inb hk)
/-- Chunk `k` of the ids, of the own half of the result, and of the other half of the result. -/
abbrev idsR (c : Dev nD) {k : ℕ} (hk : k < 4) : Rect S512x1 :=
  Rect.unit (s := S512x1) (k0_off1 c (BitVec.ofNat 32 (64 * k))) S64x1.size (k0_off1_inb c ⟨k, hk⟩)
/-- The rows of own chunk `k` in the result. -/
abbrev mineR (c : Dev nD) {k : ℕ} (hk : k < 4) : Rect S512x512 :=
  Rect.unit (s := S512x512) (k0_off2 c (BitVec.ofNat 32 (64 * k))) S64x512.size (k0_off2_inb c ⟨k, hk⟩)
/-- The rows of the other half's chunk `k` in the result. -/
abbrev otherR (c : Dev nD) {k : ℕ} (hk : k < 4) : Rect S512x512 :=
  Rect.unit (s := S512x512) (k0_off3 c (BitVec.ofNat 32 (64 * k))) S64x512.size (k0_off3_inb c ⟨k, hk⟩)

/-- The barrier semaphore, and DMA semaphore `n`: 2–9 table, 10–13 `y` send, 14–17 `y` receive, 18–21 `x` send, 22–25 `x`
    receive (0 and 1 stage the windows). -/
abbrev barS : Sem sig := sig.barrier 0 rfl
/-- Copy semaphore number `n`. -/
abbrev dS {n : ℕ} (hn : n < 26) : DmaSem sig := ⟨n, hn⟩
/-- A device's barrier. -/
abbrev barCell (c : Dev nD) : GSem nD τ sig := ((c : Thread nD τ), .reg barS)
/-- A device's copy semaphore number `n`. -/
abbrev dCell (c : Dev nD) {n : ℕ} (hn : n < 26) : GSem nD τ sig := ((c : Thread nD τ), .dma (dS hn))

/-- What one chunk's copy moves, and what one copy of table rows moves, in the semaphores' units. -/
abbrev N : ℕ := (slotM yrM (k := 0) (by decide)).view.dmaCredit
/-- What the landing of one tile of the table credits. -/
abbrev NT : ℕ := (eM.slice (tileR (k := 0) (by decide)) (fun _ => rfl)).view.dmaCredit
/-- The landing of one slot credits something. -/
theorem N_pos : 0 < N := View.dmaCredit_pos _ (by decide)
/-- The landing of one tile credits something. -/
theorem NT_pos : 0 < NT := View.dmaCredit_pos _ (by decide)

/-! ## Contents -/

/-- The words of the device's two coordinates. -/
abbrev xw (c : Dev nD) : BitVec 32 := Scalar.remsi (Scalar.divsi (Dev.word c) 2#32) 2#32
/-- A device's place along `y`, as a word. -/
abbrev yw (c : Dev nD) : BitVec 32 := Scalar.remsi (Scalar.divsi (Dev.word c) 1#32) 2#32

/-- Device `c`'s half of the table, and its ids as staged. -/
def tab (c : Dev nD) : Vec F S4096x512 .f32 := V m c main_arg1
/-- The column of ids that is staged. -/
def ids (c : Dev nD) : Vec F S512x1 .i32 := iblk m c 0 t0_0

/-- Chunk `k` of device `c`'s ids. -/
def idsAt (c : Dev nD) {k : ℕ} (hk : k < 4) : Vec F S64x1 .i32 := idsM.view.readAt (Elt F) (idsR c hk).toLoadRect (ids m c)
/-- Chunk `k` of what device `c` finds in its half of the table. -/
def part (c : Dev nD) {k : ℕ} (hk : k < 4) : FVec F S64x512 .f32 := k0_pay2 (yw c) (tab m c) (idsAt m c hk)
/-- The same rounded, as sent along `y`. -/
def partB (c : Dev nD) {k : ℕ} (hk : k < 4) : Vec F S1x64x512 .bf16 := k0_pay6 (part m c hk)
/-- Chunk `k` of the sum over the two halves of the table. -/
def red (c : Dev nD) {k : ℕ} (hk : k < 4) : FVec F S64x512 .f32 := k0_pay10 (part m c hk) (partB m (yp c) hk)
/-- The same rounded, as sent along `x`. -/
def redB (c : Dev nD) {k : ℕ} (hk : k < 4) : Vec F S1x64x512 .bf16 := k0_pay12 (k0_pay11 (part m c hk) (partB m (yp c) hk))
/-- Chunk `k` of the other half of the result, as received along `x`. -/
def far (c : Dev nD) {k : ℕ} (hk : k < 4) : FVec F S64x512 .f32 := k0_pay20 (redB m (xp c) hk)

/-- Rectangle `r` of memref `b` on device `c`, held whole, reading `v`. -/
def holds (c : Dev nD) {s : Shape} {e : EltTy} (b : Memref sig .tc .vmem s e) (r : Rect s) (v : r.shape.Idx → Elt F e) : sProp 𝕄 :=
  iprop(∃ f : Buf (Elt F) ((b.access r).loc (c : Thread nD τ)), ⌜(b.access r).read (Elt F) f = v⌝
    ∗ ((b.access r).loc (c : Thread nD τ) ↦[(b.access r).set]{fullShare} f))
/-- The same at contents not stated. -/
def holdsAny (c : Dev nD) {s : Shape} {e : EltTy} (b : Memref sig .tc .vmem s e) (r : Rect s) : sProp 𝕄 :=
  iprop(∃ f : Buf (Elt F) ((b.access r).loc (c : Thread nD τ)), ((b.access r).loc (c : Thread nD τ) ↦[(b.access r).set]{fullShare} f))

/-- A held window may be put into an invariant. -/
instance holds_storable (c : Dev nD) {s : Shape} {e : EltTy} (b : Memref sig .tc .vmem s e) (r : Rect s) (v : r.shape.Idx → Elt F e) :
    BI.Storable (upEmb : UEmb _ 𝕄) (holds (F := F) c b r v) := by unfold holds; infer_instance
/-- So may a window with any contents. -/
instance holdsAny_storable (c : Dev nD) {s : Shape} {e : EltTy} (b : Memref sig .tc .vmem s e) (r : Rect s) :
    BI.Storable (upEmb : UEmb _ 𝕄) (holdsAny (F := F) c b r) := by unfold holdsAny; infer_instance

/-- A window that holds `v` is held with any contents. -/
theorem holds_any (c : Dev nD) {s : Shape} {e : EltTy} (b : Memref sig .tc .vmem s e) (r : Rect s) (v : r.shape.Idx → Elt F e) :
    holds c b r v ⊢ (holdsAny c b r : sProp 𝕄) := by
  unfold holds holdsAny
  iintro ⟨%f, -, H⟩; iexists f; iexact H

/-- Rows `512 k …` of the table's half and of the fast copy, at the table's contents. -/
def tabPts (c : Dev nD) {k : ℕ} (hk : k < 8) : sProp 𝕄 :=
  (tabM.slice (tileR hk) (fun _ => rfl)).view.loc (c : Thread nD τ) ↦[(tabM.slice (tileR hk) (fun _ => rfl)).view.set]{fullShare} tab m c
/-- Tile `k` of the landing place, with contents. -/
def ePts (c : Dev nD) {k : ℕ} (hk : k < 8) (f : Vec F S4096x512 .f32) : sProp 𝕄 :=
  (eM.slice (tileR hk) (fun _ => rfl)).view.loc (c : Thread nD τ) ↦[(eM.slice (tileR hk) (fun _ => rfl)).view.set]{fullShare} f

/-- A tile of the table may be put into an invariant. -/
instance tabPts_storable (c : Dev nD) {k : ℕ} (hk : k < 8) : BI.Storable (upEmb : UEmb _ 𝕄) (tabPts (F := F) m c hk) := by unfold tabPts; infer_instance
/-- So may a tile of the landing place. -/
instance ePts_storable (c : Dev nD) {k : ℕ} (hk : k < 8) (f) : BI.Storable (upEmb : UEmb _ 𝕄) (ePts (F := F) c hk f) := by unfold ePts; infer_instance

/-! ## The schedule -/

/-- The four slots of a buffer at contents not stated. -/
def slotsAny (c : Dev nD) (b : Memref sig .tc .vmem S4x64x512 .bf16) : sProp 𝕄 :=
  iprop(holdsAny c b (slotR (k := 0) (by decide)) ∗ holdsAny c b (slotR (k := 1) (by decide))
    ∗ holdsAny c b (slotR (k := 2) (by decide)) ∗ holdsAny c b (slotR (k := 3) (by decide)))
/-- So may four slots. -/
instance slotsAny_storable (c : Dev nD) (b : Memref sig .tc .vmem S4x64x512 .bf16) : BI.Storable (upEmb : UEmb _ 𝕄) (slotsAny (F := F) c b) := by
  unfold slotsAny; infer_instance

/-- What the `y` neighbour's signal (`false`) and the `x` neighbour's (`true`) hand device `c`. -/
def barPay (c : Dev nD) : Bool → sProp 𝕄
  | false => iprop(slotsAny (yp c) yrM
      ∗ reached ER (dCell (yp c) (n := 14) (by decide)) 0 ∗ reached ER (dCell (yp c) (n := 15) (by decide)) 0
      ∗ reached ER (dCell (yp c) (n := 16) (by decide)) 0 ∗ reached ER (dCell (yp c) (n := 17) (by decide)) 0)
  | true => iprop(slotsAny (xp c) xrM
      ∗ reached ER (dCell (xp c) (n := 22) (by decide)) 0 ∗ reached ER (dCell (xp c) (n := 23) (by decide)) 0
      ∗ reached ER (dCell (xp c) (n := 24) (by decide)) 0 ∗ reached ER (dCell (xp c) (n := 25) (by decide)) 0)
/-- So may what the barrier's signals hand over. -/
instance barPay_storable (c : Dev nD) (b : Bool) : BI.Storable (upEmb : UEmb _ 𝕄) (barPay (F := F) c b) := by
  cases b <;> (unfold barPay; infer_instance)

/-- What DMA semaphore `n` of device `c` hands over. -/
def dmaPay (c : Dev nD) (n : ℕ) : sProp 𝕄 :=
  if h : n - 2 < 8 then iprop(ePts c h (tab m c) ∗ tabPts m c h)
  else if h : n - 10 < 4 then holds c ysM (slotR h) (partB m c h)
  else if h : n - 14 < 4 then holds c yrM (slotR h) (partB m (yp c) h)
  else if h : n - 18 < 4 then holds c xsM (slotR h) (redB m c h)
  else if h : n - 22 < 4 then holds c xrM (slotR h) (redB m (xp c) h)
  else iprop(emp)
/-- So may what the copies hand over. -/
instance dmaPay_storable (c : Dev nD) (n : ℕ) : BI.Storable (upEmb : UEmb _ 𝕄) (dmaPay (F := F) m c n) := by
  unfold dmaPay; (repeat' split) <;> infer_instance

/-- One round; two duties on the barrier, one on each DMA semaphore of the kernel's own. -/
def rd : Rounds.Schedule (GSem nD τ sig) Bool 𝕄 where
  duties g r := if r = 0 ∧ g.1.2 = .tc then (match g.2 with
    | .reg _ => {false, true}
    | .dma s => if 2 ≤ s.val then {true} else ∅) else ∅
  unitless _ := False
  amount g _ _ := match g.2 with
    | .reg _ => 1
    | .dma s => if s.val < 10 then NT else N
  payload g _ d := match g.2 with
    | .reg _ => barPay g.1.1 d
    | .dma s => dmaPay m g.1.1 s.val
  amount_pos g _ _ _ := by
    rcases g with ⟨t, s | s⟩
    · exact Nat.one_pos
    · show 0 < if s.val < 10 then NT else N
      split
      · exact NT_pos
      · exact N_pos

/-- So may whatever the protocol hands over. -/
instance rd_payload_storable (g : GSem nD τ sig) (r : ℕ) (d : Bool) : BI.Storable (upEmb : UEmb _ 𝕄) ((rd (F := F) m).payload g r d) := by
  rcases g with ⟨t, s | s⟩
  · exact barPay_storable t.1 d
  · exact dmaPay_storable m t.1 s.val

/-- The barrier has two duties, one for each peer. -/
theorem duties_bar (c : Dev nD) : (rd (F := F) m).duties (barCell c) 0 = {false, true} := by dsimp only [rd]; exact if_pos ⟨rfl, rfl⟩
/-- A copy semaphore has one duty. -/
theorem duties_dma (c : Dev nD) {n : ℕ} (hn : n < 26) (h : 2 ≤ n) : (rd (F := F) m).duties (dCell c hn) 0 = {true} := by
  dsimp only [rd]; rw [if_pos ⟨rfl, rfl⟩, if_pos h]
/-- There is one round only. -/
theorem duties_later (g : GSem nD τ sig) : ∀ r, 1 ≤ r → (rd (F := F) m).duties g r = ∅ :=
  fun r hr => by dsimp only [rd]; exact if_neg fun h => by omega
/-- A signal of the barrier counts one. -/
theorem amount_bar (c : Dev nD) (d : Bool) : (rd (F := F) m).amount (barCell c) 0 d = 1 := rfl
/-- The landing of a tile counts `NT`. -/
theorem amount_tab (c : Dev nD) {n : ℕ} (hn : n < 26) (h : n < 10) (d : Bool) : (rd (F := F) m).amount (dCell c hn) 0 d = NT := if_pos h
/-- The landing of a slot counts `N`. -/
theorem amount_dma (c : Dev nD) {n : ℕ} (hn : n < 26) (h : 10 ≤ n) (d : Bool) : (rd (F := F) m).amount (dCell c hn) 0 d = N :=
  if_neg (Nat.not_lt.mpr h)
/-- The barrier expects two. -/
theorem expect_bar (c : Dev nD) : (rd (F := F) m).expect (barCell c) 0 = 2 := by
  unfold Schedule.expect Schedule.amountOf; rw [duties_bar]; rfl
/-- A tile's semaphore expects `NT`. -/
theorem expect_tab (c : Dev nD) {n : ℕ} (hn : n < 26) (h2 : 2 ≤ n) (h : n < 10) : (rd (F := F) m).expect (dCell c hn) 0 = NT := by
  unfold Schedule.expect Schedule.amountOf; rw [duties_dma m c hn h2, Finset.sum_singleton, amount_tab m c hn h]
/-- A slot's semaphore expects `N`. -/
theorem expect_dma (c : Dev nD) {n : ℕ} (hn : n < 26) (h : 10 ≤ n) : (rd (F := F) m).expect (dCell c hn) 0 = N := by
  unfold Schedule.expect Schedule.amountOf; rw [duties_dma m c hn (by omega), Finset.sum_singleton, amount_dma m c hn h]

/-- What a signal of the barrier hands over. -/
theorem payload_bar (c : Dev nD) (d : Bool) : (rd (F := F) m).payload (barCell c) 0 d = barPay c d := rfl
/-- What a landing hands over. -/
theorem payload_dma (c : Dev nD) {n : ℕ} (hn : n < 26) (d : Bool) : (rd (F := F) m).payload (dCell c hn) 0 d = dmaPay m c n := rfl
/-- A landed tile: its contents, and the source back. -/
theorem pay_tab (c : Dev nD) {k : ℕ} (hk : k < 8) : dmaPay (F := F) m c (2 + k) = iprop(ePts c hk (tab m c) ∗ tabPts m c hk) := by
  have e : 2 + k - 2 = k := by omega
  unfold dmaPay
  rw [dif_pos (by omega)]
  have h : ∀ (j : ℕ) (hj : j < 8), j = k → (iprop(ePts c hj (tab m c) ∗ tabPts m c hj) : sProp 𝕄) = iprop(ePts c hk (tab m c) ∗ tabPts m c hk) := by rintro _ _ rfl; rfl
  exact h _ _ e
/-- A slot sent along `y`, back. -/
theorem pay_ys (c : Dev nD) {k : ℕ} (hk : k < 4) : dmaPay (F := F) m c (10 + k) = holds c ysM (slotR hk) (partB m c hk) := by
  have e : 10 + k - 10 = k := by omega
  unfold dmaPay
  rw [dif_neg (by omega), dif_pos (by omega)]
  have h : ∀ (j : ℕ) (hj : j < 4), j = k → (holds c ysM (slotR hj) (partB m c hj) : sProp 𝕄) = holds c ysM (slotR hk) (partB m c hk) := by rintro _ _ rfl; rfl
  exact h _ _ e
/-- A slot received along `y`: the peer's partial rows. -/
theorem pay_yr (c : Dev nD) {k : ℕ} (hk : k < 4) : dmaPay (F := F) m c (14 + k) = holds c yrM (slotR hk) (partB m (yp c) hk) := by
  have e : 14 + k - 14 = k := by omega
  unfold dmaPay
  rw [dif_neg (by omega), dif_neg (by omega), dif_pos (by omega)]
  have h : ∀ (j : ℕ) (hj : j < 4), j = k → (holds c yrM (slotR hj) (partB m (yp c) hj) : sProp 𝕄) = holds c yrM (slotR hk) (partB m (yp c) hk) := by rintro _ _ rfl; rfl
  exact h _ _ e
/-- A slot sent along `x`, back. -/
theorem pay_xs (c : Dev nD) {k : ℕ} (hk : k < 4) : dmaPay (F := F) m c (18 + k) = holds c xsM (slotR hk) (redB m c hk) := by
  have e : 18 + k - 18 = k := by omega
  unfold dmaPay
  rw [dif_neg (by omega), dif_neg (by omega), dif_neg (by omega), dif_pos (by omega)]
  have h : ∀ (j : ℕ) (hj : j < 4), j = k → (holds c xsM (slotR hj) (redB m c hj) : sProp 𝕄) = holds c xsM (slotR hk) (redB m c hk) := by rintro _ _ rfl; rfl
  exact h _ _ e
/-- A slot received along `x`: the peer's finished rows. -/
theorem pay_xr (c : Dev nD) {k : ℕ} (hk : k < 4) : dmaPay (F := F) m c (22 + k) = holds c xrM (slotR hk) (redB m (xp c) hk) := by
  have e : 22 + k - 22 = k := by omega
  unfold dmaPay
  rw [dif_neg (by omega), dif_neg (by omega), dif_neg (by omega), dif_neg (by omega), dif_pos (by omega)]
  have h : ∀ (j : ℕ) (hj : j < 4), j = k → (holds c xrM (slotR hj) (redB m (xp c) hj) : sProp 𝕄) = holds c xrM (slotR hk) (redB m (xp c) hk) := by rintro _ _ rfl; rfl
  exact h _ _ e

/-- All that the barrier hands over. -/
theorem rest_bar (c : Dev nD) : bigSep ((rd (F := F) m).duties (barCell c) 0 \ ∅) (fun u => (rd (F := F) m).payload (barCell c) 0 u)
    = iprop(barPay c false ∗ barPay c true) := by
  rw [Finset.sdiff_empty, duties_bar, bigSep_insert (by decide), bigSep_singleton]; rfl
/-- All that a copy semaphore hands over. -/
theorem rest_dma (c : Dev nD) {n : ℕ} (hn : n < 26) (h : 2 ≤ n) :
    bigSep ((rd (F := F) m).duties (dCell c hn) 0 \ ∅) (fun u => (rd (F := F) m).payload (dCell c hn) 0 u) = dmaPay m c n := by
  rw [Finset.sdiff_empty, duties_dma m c hn h, bigSep_singleton]; rfl

/-! ## What a device owes, and the levels -/

/-- The last `n` of the `x` copies (chunks `4 - n …`) still to be issued by device `c`. -/
def owesX (c : Dev nD) : ℕ → CellTallies nD τ sig Unit
  | 0 => 0
  | n + 1 => owesX c n + tallyAt (dCell (xp c) (n := 25 - n) (by omega)) () N
/-- All `x` copies and the last `n` of the `y` copies. -/
def owesY (c : Dev nD) : ℕ → CellTallies nD τ sig Unit
  | 0 => owesX c 4
  | n + 1 => owesY c n + tallyAt (dCell (yp c) (n := 17 - n) (by omega)) () N
/-- At launch: those, and a unit on each neighbour's barrier. -/
def O₀ (c : Dev nD) : CellTallies nD τ sig Unit := owesY c 4 + tallyAt (barCell (xp c)) () 1 + tallyAt (barCell (yp c)) () 1

/-- The units that may be owed at a cell. -/
def L (g : GSem nD τ sig) : Finset Unit := if g.1.2 = .tc then {()} else ∅
/-- Levels: a wait is allowed below everything that the waiter owes. -/
def lv (g : GSem nD τ sig) (_ : Unit) : ℕ := match g.2 with
  | .reg _ => 1
  | .dma s => if 22 ≤ s.val then 3 else if 14 ≤ s.val ∧ s.val < 18 then 2 else 0

/-- Nothing is owed off the main core. -/
theorem L_of_ne (g : GSem nD τ sig) (h : g.1.2 ≠ .tc) : L g = ∅ := if_neg h
/-- One unit on the main core. -/
theorem L_tc (c : Dev nD) (sm : SemLoc sig) : L ((c : Thread nD τ), sm) = {()} := if_pos rfl

/-- Everything owed sits above level `l`. -/
def above (l : ℕ) (O : CellTallies nD τ sig Unit) : Prop := ∀ g u, 0 < O g u → u ∈ L g ∧ l < lv g u

/-- Owing nothing is above every level. -/
theorem above_zero (l : ℕ) : above l 0 := fun g u h => absurd h (Nat.lt_irrefl 0)
/-- Sums of what lies above a level lie above it. -/
theorem above_add {l : ℕ} {O O' : CellTallies nD τ sig Unit} (h : above l O) (h' : above l O') : above l (O + O') := fun g u hg => by
  rw [Pi.add_apply, Finsupp.add_apply] at hg
  rcases Nat.add_pos_iff_pos_or_pos.mp hg with hg | hg
  · exact h g u hg
  · exact h' g u hg
/-- One cell above a level. -/
theorem above_tally {l : ℕ} (c : Dev nD) (sm : SemLoc sig) (n : ℕ) (h : l < lv ((c : Thread nD τ), sm) ()) :
    above l (tallyAt ((c : Thread nD τ), sm) () n) := fun g u hg => by
  rw [tallyAt_apply] at hg
  split at hg
  · next e => rw [e.1, L_tc]; exact ⟨Finset.mem_singleton_self _, h⟩
  · exact absurd hg (Nat.lt_irrefl 0)

/-- The sends along `x` lie above level 2. -/
theorem above_owesX (c : Dev nD) : ∀ n, n ≤ 4 → above 2 (owesX c n)
  | 0, _ => above_zero _
  | n + 1, h => by
    refine above_add (above_owesX c n (by omega)) (above_tally _ _ _ ?_)
    show 2 < if 22 ≤ 25 - n then 3 else _
    rw [if_pos (by omega)]; decide
/-- What is owed before the sends along `y` lies above level 1. -/
theorem above_owesY (c : Dev nD) : ∀ n, n ≤ 4 → above 1 (owesY c n)
  | 0, _ => fun g u hg => ⟨(above_owesX c 4 le_rfl g u hg).1, Nat.lt_of_succ_lt (above_owesX c 4 le_rfl g u hg).2⟩
  | n + 1, h => by
    refine above_add (above_owesY c n (by omega)) (above_tally _ _ _ ?_)
    show 1 < if 22 ≤ 17 - n then 3 else if 14 ≤ 17 - n ∧ 17 - n < 18 then 2 else 0
    rw [if_neg (by omega), if_pos (by omega)]; decide
/-- Above a level is above every lower one. -/
theorem above_mono {l l' : ℕ} (h : l ≤ l') {O : CellTallies nD τ sig Unit} (hO : above l' O) : above l O :=
  fun g u hg => ⟨(hO g u hg).1, Nat.lt_of_le_of_lt h (hO g u hg).2⟩
/-- All that is owed at the start lies above level 0. -/
theorem above_O₀ (c : Dev nD) : above 0 (O₀ c) :=
  above_add (above_add (above_mono (by decide) (above_owesY c 4 le_rfl)) (above_tally _ _ _ Nat.one_pos)) (above_tally _ _ _ Nat.one_pos)

/-- A core may wait on a semaphore of a level at or below `l` while all it owes sits above `l`. -/
theorem mayWait (c : Dev nD) (sm : SemLoc sig) (l : ℕ) (h : lv ((c : Thread nD τ), sm) () ≤ l) {O : CellTallies nD τ sig Unit} (hO : above l O) :
    (levAts L lv : sProp 𝕄) ⊢ MayWait (c : Thread nD τ) sm () O :=
  MayOwe.of_cut (L := L) (lev := lv) l (fun p hp => by rw [Finset.mem_singleton.mp hp, L_tc]; exact Finset.mem_singleton_self _)
    (fun g u hg => (hO g u hg).1)
    (fun p hp => by rw [Finset.mem_singleton.mp hp]; exact h)
    (fun g u hg => (hO g u hg).2)

/-! ## Records -/

/-- No loops, so no variants. -/
abbrev 𝒱₀ : Variants := Variants.none

/-- The kernel's own DMA semaphores. -/
abbrev osem : Fin 24 → SemLoc sig := fun i => .dma (dS (n := 2 + i.val) (by omega))
/-- The copy semaphores are different. -/
theorem osem_inj : Function.Injective osem := by decide

/-- The barriers of all devices. -/
def barEmb : Dev nD ↪ GSem nD τ sig := ⟨fun c => barCell c, fun _ _ h => congrArg (fun g : GSem nD τ sig => g.1.1) h⟩
/-- The copy semaphores of all devices. -/
def scEmb : Dev nD × Fin 24 ↪ GSem nD τ sig :=
  ⟨fun ck => ((ck.1 : Thread nD τ), osem ck.2), fun _ _ h =>
    Prod.ext (congrArg (fun g : GSem nD τ sig => g.1.1) h) (osem_inj (congrArg Prod.snd h))⟩
/-- The barrier cells, and the cells of the kernel's own DMA semaphores. -/
abbrev barCells : Finset (GSem nD τ sig) := Finset.univ.map barEmb
/-- The cells of all copy semaphores. -/
abbrev scCells : Finset (GSem nD τ sig) := Finset.univ.map scEmb

/-- A device's barrier is a cell of the protocol. -/
theorem bar_mem (c : Dev nD) : barCell c ∈ (barCells ∪ scCells : Finset (GSem nD τ sig)) :=
  Finset.mem_union_left _ (Finset.mem_map_of_mem barEmb (Finset.mem_univ c))
/-- So is a copy semaphore. -/
theorem dma_mem (c : Dev nD) {n : ℕ} (hn : n < 26) (h : 2 ≤ n) : dCell c hn ∈ (barCells ∪ scCells : Finset (GSem nD τ sig)) := by
  have e : dCell c hn = scEmb (c, ⟨n - 2, by omega⟩) := by
    show ((c : Thread nD τ), SemLoc.dma (⟨n, hn⟩ : DmaSem sig)) = ((c : Thread nD τ), SemLoc.dma (⟨2 + (n - 2), _⟩ : DmaSem sig))
    congr 3; omega
  rw [e]
  exact Finset.mem_union_right _ (Finset.mem_map_of_mem scEmb (Finset.mem_univ _))

/-- What every device may consult: all the cells' invariants under one map of names; round 0 of every barrier reached. -/
def records (K : GSem nD τ sig → ℕ) : sProp 𝕄 :=
  iprop((bigSep (barCells ∪ scCells) fun g => cellInv ER (rd (F := F) m) (K g) g) ∗ bigSep barCells fun g => reached ER g 0)
/-- The invariants can be used many times. -/
instance records_persistent (K : GSem nD τ sig → ℕ) : BI.Persistent (records (F := F) m K) := by unfold records; infer_instance

/-- Round 0 of each of device `c`'s own DMA cells reached. -/
def begun (c : Dev nD) : sProp 𝕄 := bigSep Finset.univ fun i : Fin 24 => reached ER ((c : Thread nD τ), osem i) 0
/-- That round 0 is reached can be used many times. -/
instance begun_persistent (c : Dev nD) : BI.Persistent (begun (F := F) c) := by unfold begun; infer_instance

/-- A barrier's invariant, out of all. -/
theorem inv_bar (K : GSem nD τ sig → ℕ) (c : Dev nD) : records m K ⊢ (cellInv ER (rd (F := F) m) (K (barCell c)) (barCell c) : sProp 𝕄) := by
  unfold records; exact sep_elim_left.trans (bigSep_elim (bar_mem c))
/-- A copy semaphore's invariant, out of all. -/
theorem inv_dma (K : GSem nD τ sig → ℕ) (c : Dev nD) {n : ℕ} (hn : n < 26) (h : 2 ≤ n) :
    records m K ⊢ (cellInv ER (rd (F := F) m) (K (dCell c hn)) (dCell c hn) : sProp 𝕄) := by
  unfold records; exact sep_elim_left.trans (bigSep_elim (dma_mem c hn h))
/-- A barrier is in round 0. -/
theorem reached_bar (K : GSem nD τ sig → ℕ) (c : Dev nD) : records m K ⊢ (reached ER (barCell c) 0 : sProp 𝕄) := by
  unfold records; exact sep_elim_right.trans (bigSep_elim (Finset.mem_map_of_mem barEmb (Finset.mem_univ c)))
/-- A copy semaphore is in round 0. -/
theorem reached_dma (c : Dev nD) {n : ℕ} (hn : n < 26) (h : 2 ≤ n) : begun c ⊢ (reached ER (dCell c hn) 0 : sProp 𝕄) := by
  have e : dCell c hn = ((c : Thread nD τ), osem ⟨n - 2, by omega⟩) := by
    show ((c : Thread nD τ), SemLoc.dma (⟨n, hn⟩ : DmaSem sig)) = ((c : Thread nD τ), SemLoc.dma (⟨2 + (n - 2), _⟩ : DmaSem sig))
    congr 3; omega
  rw [e]; unfold begun
  exact bigSep_elim (Φ := fun i : Fin 24 => (reached ER ((c : Thread nD τ), osem i) 0 : sProp 𝕄)) (Finset.mem_univ _)

end Cert.EmbedProof

end
-- ==== Proof.Steps.lean ====
/-
# One rule for each kind of step of the embedding lookup

Loads and stores through a rectangle held on its own; a copy of table rows; a copy of one chunk to a neighbour; a wait on one of
the kernel's own DMA semaphores, which is closed at once since it is used for one round only.
-/
module

public import proofs.«01_k».proof.Proof.Protocol

@[expose] public section

noncomputable section

namespace Cert.EmbedProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The weakest precondition of a program run by device `c`'s core. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What device `c` owes; the waits it has recorded not stated. -/
def owing (c : Dev nD) (O : CellTallies nD τ sig Unit) : sProp 𝕄 := iprop(∃ W, owes (c : Thread nD τ) O W)

/-! ## Loads and stores -/

section Mem
variable (c : Dev nD) {s : Shape} {e : EltTy} (b : Memref sig .tc .vmem s e) (r : Rect s)

/-- A load from a window that holds `v` gives `v`. -/
theorem step_load {hl : b.view.LoadsAt r} {α : Type} {k : (r.shape.Idx → Elt F e) → Prog (TpuEff nD τ sig (Elt F) Λ₀ .tc) α} {Q : α → sProp 𝕄}
    (v : r.shape.Idx → Elt F e) :
    holds c b r v ⊢ iprop((holds c b r v -∗ runs c (k v) Q) -∗ runs c (.op (.load b r hl) k) Q) := by
  unfold holds
  iintro ⟨%f, %hf, H⟩ Hk
  iapply (wp_load_rect 𝒱₀ (c : Thread nD τ) none Set.univ (m := b) (r := r) (subset_rfl)) $$ H
  iintro H
  rw [hf]
  iapply Hk
  iexists f; isplitr
  · ipureintro; exact hf
  iexact H

/-- A load from a window with any contents gives some value. -/
theorem step_load_any {hl : b.view.LoadsAt r} {α : Type} {k : (r.shape.Idx → Elt F e) → Prog (TpuEff nD τ sig (Elt F) Λ₀ .tc) α} {Q : α → sProp 𝕄} :
    holdsAny c b r ⊢ iprop((∀ v, holdsAny c b r -∗ runs c (k v) Q) -∗ runs c (.op (.load b r hl) k) Q) := by
  unfold holdsAny
  iintro ⟨%f, H⟩ Hk
  iapply (wp_load_rect 𝒱₀ (c : Thread nD τ) none Set.univ (m := b) (r := r) (subset_rfl)) $$ H
  iintro H
  iapply Hk
  iexists f; iexact H

/-- A store into a window leaves it holding what was stored. -/
theorem step_store {w : r.shape.Idx → Elt F e} {hx : (b.access r).Stores Finset.univ} {hm : (Finset.univ : Finset r.shape.Idx) = Finset.univ ∨ ∀ a, r.stride a = 1}
    {α : Type} {k : PUnit → Prog (TpuEff nD τ sig (Elt F) Λ₀ .tc) α} {Q : α → sProp 𝕄} :
    holdsAny c b r ⊢ iprop((holds c b r w -∗ runs c (k ⟨⟩) Q) -∗ runs c (.op (.store b r w Finset.univ hx hm) k) Q) := by
  unfold holdsAny holds
  iintro ⟨%f, H⟩ Hk
  iapply (wp_store 𝒱₀ (c : Thread nD τ) none Set.univ (m := b) (r := r) (Mk := Finset.univ) (by rw [View.setOn_univ])) $$ H
  iintro H
  iapply Hk
  iexists _; isplitr
  rotate_left
  · iexact H
  ipureintro; exact View.read_write_univ _ _

/-- A load and the store over it that follows, whatever was there: the emitted code reads a chunk before it overwrites it. -/
theorem step_over {w : r.shape.Idx → Elt F e} {hl : b.view.LoadsAt r} {hx : (b.access r).Stores Finset.univ}
    {hm : (Finset.univ : Finset r.shape.Idx) = Finset.univ ∨ ∀ a, r.stride a = 1}
    {α : Type} {k : PUnit → Prog (TpuEff nD τ sig (Elt F) Λ₀ .tc) α} {Q : α → sProp 𝕄} :
    holdsAny c b r ⊢ iprop((holds c b r w -∗ runs c (k ⟨⟩) Q)
      -∗ runs c (.op (.load b r hl) fun _ => .op (.store b r w Finset.univ hx hm) k) Q) := by
  iintro H Hk
  iapply (step_load_any c b r) $$ H
  iintro %v H
  iapply (step_store c b r) $$ H
  iexact Hk
end Mem

/-! ## Copies -/

/-- Rows copied from the table into the fast copy are the table's there. -/
theorem tile_copied {k : ℕ} (hk : k < 8) (T f : Vec F S4096x512 .f32) :
    ∀ i ∈ (eM.slice (tileR hk) (fun _ => rfl)).view.set,
      (eM.slice (tileR hk) (fun _ => rfl)).view.write (Elt F) f ((tabM.slice (tileR hk) (fun _ => rfl)).view.read (Elt F) T) Finset.univ i = T i := by
  intro i hi
  obtain ⟨x, -, rfl⟩ := Finset.mem_map.mp hi
  rw [View.write_emb_of_mem _ _ (Finset.mem_univ x), View.read_apply, cast_cast]
  exact cast_eq _ _

/-- A copy of table rows into the fast copy pays the semaphore's only duty. -/
theorem step_copy (K : GSem nD τ sig → ℕ) (c : Dev nD) {k : ℕ} (hk : k < 8)
    {sem : DmaSem sig} (hs : sem = dS (n := 2 + k) (by omega))
    {hsrc : (tabM.slice (tileR hk) (fun _ => rfl)).view.WordExact} {hdst : (eM.slice (tileR hk) (fun _ => rfl)).view.WordExact}
    {hsem : DmaTarget.Typed (nD := nD) (τ := τ) (p := Proc.tc) .hbm (.dma sem) (.here (eM.slice (tileR hk) (fun _ => rfl)))}
    {α : Type} {p : PUnit → Prog (TpuEff nD τ sig (Elt F) Λ₀ .tc) α} {Q : α → sProp 𝕄} :
    iprop(records m K ∗ begun c ∗ tabPts m c hk ∗ (∃ f, ePts c hk f) ∗ dutyTok ER (dCell c (n := 2 + k) (by omega)) 0 true)
      ⊢ iprop((cred (tallyAt (dCell c (n := 2 + k) (by omega)) () NT) -∗ runs c (p ⟨⟩) Q)
          -∗ runs c (.op (.enqueueDma (tabM.slice (tileR hk) (fun _ => rfl)) (.here (eM.slice (tileR hk) (fun _ => rfl))) (.dma sem) hsrc hdst hsem) p) Q) := by
  subst hs
  iintro ⟨#HR, #HB, Ht, ⟨%f, He⟩, Htok⟩
  ihave HI := (inv_dma m K c (n := 2 + k) (by omega) (by omega)) $$ HR
  ihave Hr := (reached_dma c (n := 2 + k) (by omega) (by omega)) $$ HB
  unfold tabPts ePts
  iapply (Rounds.wp_copy_pointsTo 𝒱₀ ER (rd m) (c : Thread nD τ) none (src := tabM.slice (tileR hk) (fun _ => rfl)) (dst := eM.slice (tileR hk) (fun _ => rfl))
    (fs := tab m c) (fd := f) (q := fullShare) (κ := K (dCell c (n := 2 + k) (by omega))) (r := 0) (d := true)
    (by rw [duties_dma m c _ (by omega)]; exact Finset.mem_singleton_self _) () NT rfl (amount_tab m c _ (by omega) true)
    (by
      rw [payload_dma, pay_tab m c hk]
      refine sep_mono_left ?_
      unfold ePts
      exact Entails.of_eq (pointsTo_congr fun i hi => tile_copied hk (tab m c) f i hi)))
  isplitr; · iexact HI
  isplitl [Ht]; · iexact Ht
  isplitl [He]; · iexact He
  isplitl [Htok]; · iexact Htok
  iexact Hr

/-- A slot as a memref has the elements of the slot as a rectangle. -/
theorem slotM_set (b : Memref sig .tc .vmem S4x64x512 .bf16) {k : ℕ} (hk : k < 4) : (slotM b hk).view.set = (b.access (slotR hk)).set :=
  View.set_reshape _ _

/-- A chunk copied from one slot to the same slot of another buffer reads there what it read here. -/
theorem slot_copied (b b' : Memref sig .tc .vmem S4x64x512 .bf16) {k : ℕ} (hk : k < 4) (f : b.view.ty.Contents (Elt F)) (g : b'.view.ty.Contents (Elt F)) :
    (b'.access (slotR hk)).read (Elt F) ((slotM b' hk).view.write (Elt F) g ((slotM b hk).view.read (Elt F) f) Finset.univ)
      = (b.access (slotR hk)).read (Elt F) f := by
  funext i
  have h := congrFun (View.read_write_univ (v := (slotM b' hk).view) g ((slotM b hk).view.read (Elt F) f))
    ((Shape.reshapeEquiv squeezes_S1x64x512_S64x512.numel_eq).symm i)
  have h' : (b'.access (slotR hk)).read (Elt F) ((slotM b' hk).view.write (Elt F) g ((slotM b hk).view.read (Elt F) f) Finset.univ)
        (Shape.reshapeEquiv squeezes_S1x64x512_S64x512.numel_eq ((Shape.reshapeEquiv squeezes_S1x64x512_S64x512.numel_eq).symm i))
      = (b.access (slotR hk)).read (Elt F) f
        (Shape.reshapeEquiv squeezes_S1x64x512_S64x512.numel_eq ((Shape.reshapeEquiv squeezes_S1x64x512_S64x512.numel_eq).symm i)) := h
  rwa [Equiv.apply_symm_apply] at h'

/-- A remote copy of a slot: it takes the slot sent, the slot written on the peer and what is owed, and both semaphores will hand them back with the contents. -/
theorem step_send (K : GSem nD τ sig → ℕ) (c d d' : Dev nD) (hd : d' = d) (bs bd : Memref sig .tc .vmem S4x64x512 .bf16) {k : ℕ} (hk : k < 4)
    {n n' : ℕ} (hn : n < 26) (hn' : n' < 26) (h10 : 10 ≤ n) (h10' : 10 ≤ n') (v : (slotR hk).shape.Idx → Elt F .bf16)
    (hp : dmaPay (F := F) m c n = holds c bs (slotR hk) v) (hp' : dmaPay (F := F) m d n' = holds d bd (slotR hk) v)
    (hN : (slotM bd hk).view.dmaCredit = N)
    {sS sR : DmaSem sig} (hS : sS = dS hn) (hR : sR = dS hn') (O : CellTallies nD τ sig Unit)
    {hsc : (slotM bd hk : Memref sig (Dev.tc d' : Thread nD τ).2.kind .vmem S64x512 .bf16).view.ref.isScScratch = false}
    {hsrc : (slotM bs hk).view.WordExact} {hdst : (slotM bd hk).view.WordExact}
    {hsem : DmaTarget.Typed .vmem (.dma sR) (.remote (Dev.tc d' : Thread nD τ) (slotM bd hk) (.dma sS) hsc)}
    {α : Type} {p : PUnit → Prog (TpuEff nD τ sig (Elt F) Λ₀ .tc) α} {Q : α → sProp 𝕄} :
    iprop(records m K ∗ begun c ∗ reached ER (dCell d hn') 0 ∗ holds c bs (slotR hk) v ∗ holdsAny d bd (slotR hk)
        ∗ owing c (O + tallyAt (dCell d hn') () N) ∗ dutyTok ER (dCell c hn) 0 true ∗ dutyTok ER (dCell d hn') 0 true)
      ⊢ iprop(((cred (tallyAt (dCell c hn) () N) ∗ owing c O) -∗ runs c (p ⟨⟩) Q)
          -∗ runs c (.op (.enqueueDma (slotM bs hk) (.remote (Dev.tc d' : Thread nD τ) (slotM bd hk) (.dma sS) hsc) (.dma sR) hsrc hdst hsem) p) Q) := by
  subst hd hS hR
  iintro ⟨#HR, #HB, #Hr', Hs, Hd, HO, Htok, Htok'⟩ Hk
  ihave HI := (inv_dma m K c hn (by omega)) $$ HR
  ihave HI' := (inv_dma m K d' hn' (by omega)) $$ HR
  ihave Hr := (reached_dma c hn (by omega)) $$ HB
  unfold holds holdsAny owing
  icases Hs with ⟨%fs, %hfs, Hs⟩
  icases Hd with ⟨%fd, Hd⟩
  icases HO with ⟨%W, HO⟩
  iapply (Rounds.wp_send_pointsTo 𝒱₀ ER (rd m) (c : Thread nD τ) none (c' := (d' : Thread nD τ)) (sS := .dma (dS hn)) (sem := .dma (dS hn')) (κ₁ := K (dCell c hn)) (κ₂ := K (dCell d' hn')) (src := slotM bs hk) (dst := slotM bd hk) (r₁ := 0) (r₂ := 0)
      (d₁ := true) (d₂ := true) (fs := fs) (fd := fd) (q := fullShare)
      (by rw [duties_dma m c _ (by omega)]; exact Finset.mem_singleton_self _) (by rw [duties_dma m d' _ (by omega)]; exact Finset.mem_singleton_self _)
      () () N hN (amount_dma m c _ h10 true) (amount_dma m d' _ h10' true) O rfl (W := W)
      (by
        rw [payload_dma, hp, slotM_set]
        unfold holds
        iintro H; iexists fs; isplitr
        · ipureintro; exact hfs
        iexact H)
      (by
        rw [payload_dma, hp', slotM_set]
        unfold holds
        iintro H; iexists _; isplitr
        rotate_left
        · iexact H
        ipureintro
        exact (slot_copied bs bd hk fs fd).trans hfs)) $$ [HO Htok Htok' Hs Hd]
  · isplitr; · iexact HI
    isplitr; · iexact HI'
    rw [slotM_set, slotM_set]
    isplitl [Hs]; · iexact Hs
    isplitl [Hd]; · iexact Hd
    isplitl [HO]; · iexact HO
    isplitl [Htok]; · iexact Htok
    isplitr; · iexact Hr
    isplitl [Htok']; · iexact Htok'
    iexact Hr'
  iintro ⟨HC, HO⟩
  iapply Hk
  isplitl [HC]; · iexact HC
  iexists W; iexact HO

/-! ## Waits -/

/-- A wait on one of the kernel's own DMA semaphores: what the semaphore hands over, and its counter, back at zero. -/
theorem step_wait (K : GSem nD τ sig → ℕ) (c : Dev nD) {n : ℕ} (hn : n < 26) (h2 : 2 ≤ n) (A : ℕ) (hA : (rd (F := F) m).expect (dCell c hn) 0 = A)
    (P : sProp 𝕄) (hP : dmaPay (F := F) m c n = P) (l : ℕ) (hl : lv (dCell c hn) () ≤ l) {O : CellTallies nD τ sig Unit} (hO : above l O)
    {sem : DmaSem sig} (hs : sem = dS hn)
    {sp sp' : Space} {s s' : Shape} {e e' : EltTy} {src : Memref sig .tc sp' s' e'} {dst : Memref sig .tc sp s e} {hsrc : src.view.WordExact} {hdst : dst.view.WordExact}
    (hd : dst.view.dmaCredit = A)
    {α : Type} {p : PUnit → Prog (TpuEff nD τ sig (Elt F) Λ₀ .tc) α} {Q : α → sProp 𝕄} :
    iprop(records m K ∗ levAts L lv ∗ cred (tallyAt (dCell c hn) () A) ∗ owing c O ∗ atPos ER (dCell c hn) 0 ∅ 0)
      ⊢ iprop(((P ∗ semVal (dCell c hn) 0 ∗ owing c O) -∗ runs c (p ⟨⟩) Q)
          -∗ runs c (.op (.waitDma2 sem src dst hsrc hdst) p) Q) := by
  subst hs hd hP
  iintro ⟨#HR, #HL, HC, HO, Hat⟩ Hk
  ihave #HI := (inv_dma m K c hn h2) $$ HR
  unfold owing
  icases HO with ⟨%W, HO⟩
  iapply (Rounds.wp_wait_rest_token 𝒱₀ ER (rd m) (c : Thread nD τ) none (κ := K (dCell c hn))
      (wpE_waitDma2_eq 𝒱₀ (c : Thread nD τ) none Set.univ) (Set.mem_univ _) () (O := O) (W := W) (R := 0) (m := 0) (T := ∅)
      (by rw [Nat.zero_add, hA])) $$ [HC HO Hat]
  · isplitr; · iexact HI
    isplitl [HC]; · iexact HC
    isplitl [HO]; · iexact HO
    isplitr; · iapply (mayWait c (.dma (dS hn)) l hl hO); iexact HL
    iexact Hat
  iintro ⟨HO, Hat, -, Hpay⟩
  ihave Hp := (Entails.of_eq (rest_dma m c hn h2)) $$ Hpay
  imod (Rounds.cell_close ER (rd m) (Set.mem_univ (K (dCell c hn))) (fun h => h) (R := 0 + 1) (duties_later m (dCell c hn))) $$ [Hat] with Hz
  · isplitr; · iexact HI
    iexact Hat
  iapply Hk
  isplitl [Hp]; · iexact Hp
  isplitl [Hz]; · iexact Hz
  iexists _; iexact HO

/-- The signal to a neighbour's barrier. -/
theorem step_signal (K : GSem nD τ sig → ℕ) (c d d' : Dev nD) (hd : d' = d) (b : Bool) (O : CellTallies nD τ sig Unit)
    {α : Type} {p : PUnit → Prog (TpuEff nD τ sig (Elt F) Λ₀ .tc) α} {Q : α → sProp 𝕄} :
    iprop(records m K ∗ owing c (O + tallyAt (barCell d) () 1) ∗ dutyTok ER (barCell d) 0 b ∗ barPay d b)
      ⊢ iprop((owing c O -∗ runs c (p ⟨⟩) Q) -∗ runs c (.op (.semSignal (d' : Thread nD τ) barS 1) p) Q) := by
  subst hd
  iintro ⟨#HR, HO, Htok, Hp⟩ Hk
  ihave HI := (inv_bar m K d') $$ HR
  ihave Hr := (reached_bar m K d') $$ HR
  unfold owing
  icases HO with ⟨%W, HO⟩
  iapply (Rounds.wp_signal 𝒱₀ ER (rd m) (c : Thread nD τ) none (dst := (d' : Thread nD τ)) (κ := K (barCell d')) (d := b) (r := 0)
      (by rw [duties_bar]; cases b <;> decide) (amount_bar m d' b) () O rfl) $$ [HO Htok Hp]
  · isplitr; · iexact HI
    isplitl [HO]; · iexact HO
    isplitl [Htok]; · iexact Htok
    isplitl [Hp]; · rw [payload_bar]; iexact Hp
    iexact Hr
  iintro HO
  iapply Hk
  iexists W; iexact HO

/-- The wait on the own barrier: both neighbours' slots. -/
theorem step_barrier (K : GSem nD τ sig → ℕ) (c : Dev nD) {O : CellTallies nD τ sig Unit} (hO : above 1 O)
    {α : Type} {p : PUnit → Prog (TpuEff nD τ sig (Elt F) Λ₀ .tc) α} {Q : α → sProp 𝕄} :
    iprop(records m K ∗ levAts L lv ∗ cred (tallyAt (barCell c) () 2) ∗ owing c O ∗ atPos ER (barCell c) 0 ∅ 0)
      ⊢ iprop(((barPay c false ∗ barPay c true ∗ semVal (barCell c) 0 ∗ owing c O) -∗ runs c (p ⟨⟩) Q)
          -∗ runs c (.op (.semWait barS 2) p) Q) := by
  iintro ⟨#HR, #HL, HC, HO, Hat⟩ Hk
  ihave #HI := (inv_bar m K c) $$ HR
  unfold owing
  icases HO with ⟨%W, HO⟩
  iapply (Rounds.wp_wait_rest_token 𝒱₀ ER (rd m) (c : Thread nD τ) none (κ := K (barCell c))
      (wpE_semWait_eq 𝒱₀ (c : Thread nD τ) none Set.univ) (Set.mem_univ _) () (O := O) (W := W) (R := 0) (m := 0) (T := ∅)
      (by rw [expect_bar])) $$ [HC HO Hat]
  · isplitr; · iexact HI
    isplitl [HC]; · iexact HC
    isplitl [HO]; · iexact HO
    isplitr; · iapply (mayWait c (.reg barS) 1 le_rfl hO); iexact HL
    iexact Hat
  iintro ⟨HO, Hat, -, Hpay⟩
  ihave Hp := (Entails.of_eq (rest_bar m c)) $$ Hpay
  icases Hp with ⟨Hp1, Hp2⟩
  imod (Rounds.cell_close ER (rd m) (Set.mem_univ (K (barCell c))) (fun h => h) (R := 0 + 1) (duties_later m (barCell c))) $$ [Hat] with Hz
  · isplitr; · iexact HI
    iexact Hat
  iapply Hk
  isplitl [Hp1]; · iexact Hp1
  isplitl [Hp2]; · iexact Hp2
  isplitl [Hz]; · iexact Hz
  iexists _; iexact HO

end Cert.EmbedProof

end
-- ==== Proof.Moves.lean ====
/-
# The moves of the embedding lookup, chunk by chunk

The steps of `Steps.lean` at the kernel's own buffers and semaphores, with what each needs and gives bundled under a name.
-/
module

public import proofs.«01_k».proof.Proof.Steps

@[expose] public section

noncomputable section

namespace Cert.EmbedProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : GSem nD τ sig → ℕ)

/-! ## Names for the pieces -/

/-- `0` is the number of a chunk. -/
theorem l0 : 0 < 4 := by decide
/-- `1` is the number of a chunk. -/
theorem l1 : 1 < 4 := by decide
/-- `2` is the number of a chunk. -/
theorem l2 : 2 < 4 := by decide
/-- `3` is the number of a chunk. -/
theorem l3 : 3 < 4 := by decide
/-- `0` is the number of a tile. -/
theorem t0 : 0 < 8 := by decide
/-- `1` is the number of a tile. -/
theorem t1 : 1 < 8 := by decide
/-- `2` is the number of a tile. -/
theorem t2 : 2 < 8 := by decide
/-- `3` is the number of a tile. -/
theorem t3 : 3 < 8 := by decide
/-- `4` is the number of a tile. -/
theorem t4 : 4 < 8 := by decide
/-- `5` is the number of a tile. -/
theorem t5 : 5 < 8 := by decide
/-- `6` is the number of a tile. -/
theorem t6 : 6 < 8 := by decide
/-- `7` is the number of a tile. -/
theorem t7 : 7 < 8 := by decide

/-- What every step may consult. -/
def ctx (c : Dev nD) : sProp 𝕄 := iprop(records m K ∗ begun c ∗ levAts L lv)
/-- The context can be used many times. -/
instance ctx_persistent (c : Dev nD) : BI.Persistent (ctx (F := F) m K c) := by unfold ctx; infer_instance

/-- The right to pay DMA semaphore `n` of device `c`; the position of its owner before its round; its counter back at zero. -/
def tok (c : Dev nD) (n : ℕ) (hn : n < 26) : sProp 𝕄 := dutyTok ER (dCell c hn) 0 true
/-- The position at a copy semaphore: its only round, nothing taken yet. -/
def pos (c : Dev nD) (n : ℕ) (hn : n < 26) : sProp 𝕄 := atPos ER (dCell c hn) 0 ∅ 0
/-- A copy semaphore at zero. -/
def zero (c : Dev nD) (n : ℕ) (hn : n < 26) : sProp 𝕄 := semVal (dCell c hn) 0

/-- The table rows of a copy with the place they go and the right to pay, before it is issued. -/
def tabGo (c : Dev nD) {k : ℕ} (hk : k < 8) : sProp 𝕄 := iprop(tabPts m c hk ∗ (∃ f, ePts c hk f) ∗ tok c (2 + k) (by omega))
/-- The copy under way. -/
def tabFly (c : Dev nD) {k : ℕ} (hk : k < 8) : sProp 𝕄 := cred (tallyAt (dCell c (n := 2 + k) (by omega)) () NT)
/-- The position of its semaphore. -/
def tabPos (c : Dev nD) {k : ℕ} (hk : k < 8) : sProp 𝕄 := pos c (2 + k) (by omega)
/-- What is back when it has landed, beside the rows of the fast copy. -/
def tabBack (c : Dev nD) {k : ℕ} (hk : k < 8) : sProp 𝕄 := iprop(tabPts m c hk ∗ zero c (2 + k) (by omega))

/-- Where chunk `k` of the `y` exchange lands on the neighbour; the right to pay both semaphores. -/
def yDst (c : Dev nD) {k : ℕ} (hk : k < 4) : sProp 𝕄 :=
  iprop(reached ER (dCell (yp c) (n := 14 + k) (by omega)) 0 ∗ holdsAny (yp c) yrM (slotR hk))
/-- The two duties of one send along `y`. -/
def yTok (c : Dev nD) {k : ℕ} (hk : k < 4) : sProp 𝕄 := iprop(tok c (10 + k) (by omega) ∗ tok (yp c) (14 + k) (by omega))
/-- The send under way; the chunk expected. -/
def yFly (c : Dev nD) {k : ℕ} (hk : k < 4) : sProp 𝕄 := cred (tallyAt (dCell c (n := 10 + k) (by omega)) () N)
/-- The credit and the position of one chunk expected along `y`. -/
def yIn (c : Dev nD) {k : ℕ} (hk : k < 4) : sProp 𝕄 := iprop(cred (tallyAt (dCell c (n := 14 + k) (by omega)) () N) ∗ pos c (14 + k) (by omega))
/-- The chunk received; the chunk sent, back. -/
abbrev yGot (c : Dev nD) {k : ℕ} (hk : k < 4) : sProp 𝕄 := holds c yrM (slotR hk) (partB m (yp c) hk)
/-- The slot sent along `y`, back. -/
abbrev yOut (c : Dev nD) {k : ℕ} (hk : k < 4) : sProp 𝕄 := holds c ysM (slotR hk) (partB m c hk)

/-- The same for the `x` exchange. -/
def xDst (c : Dev nD) {k : ℕ} (hk : k < 4) : sProp 𝕄 :=
  iprop(reached ER (dCell (xp c) (n := 22 + k) (by omega)) 0 ∗ holdsAny (xp c) xrM (slotR hk))
/-- The two duties of one send along `x`. -/
def xTok (c : Dev nD) {k : ℕ} (hk : k < 4) : sProp 𝕄 := iprop(tok c (18 + k) (by omega) ∗ tok (xp c) (22 + k) (by omega))
/-- The credit of one send along `x` under way. -/
def xFly (c : Dev nD) {k : ℕ} (hk : k < 4) : sProp 𝕄 := cred (tallyAt (dCell c (n := 18 + k) (by omega)) () N)
/-- The credit and the position of one chunk expected along `x`. -/
def xIn (c : Dev nD) {k : ℕ} (hk : k < 4) : sProp 𝕄 := iprop(cred (tallyAt (dCell c (n := 22 + k) (by omega)) () N) ∗ pos c (22 + k) (by omega))
/-- The chunk received along `x`. -/
abbrev xGot (c : Dev nD) {k : ℕ} (hk : k < 4) : sProp 𝕄 := holds c xrM (slotR hk) (redB m (xp c) hk)
/-- The slot sent along `x`, back. -/
abbrev xOut (c : Dev nD) {k : ℕ} (hk : k < 4) : sProp 𝕄 := holds c xsM (slotR hk) (redB m c hk)

/-- The staged ids; the fast copy whole, at the table's contents. -/
def idsPts (c : Dev nD) : sProp 𝕄 := idsM.view.loc (c : Thread nD τ) ↦{fullShare} ids m c
/-- The half table, landed. -/
def eAll (c : Dev nD) : sProp 𝕄 := eM.view.loc (c : Thread nD τ) ↦{fullShare} tab m c

/-! ## Payloads that differ in name only -/

/-- The second chunk is computed as the first. -/
theorem pay3_eq : k0_pay3 (F := F) = k0_pay2 := rfl
/-- The third chunk is computed as the first. -/
theorem pay4_eq (v5 : BitVec 32) (v84 : Vec F S4096x512 .f32) (v : Vec F S64x1 .i32) :
    k0_pay4 v5 (k0_pay1 v84) (iota .tc S64x4096 32 [1] iota_S64x4096_d1_w32) v = k0_pay2 v5 v84 v := rfl
/-- The fourth chunk is computed as the first. -/
theorem pay5_eq (v5 : BitVec 32) (v84 : Vec F S4096x512 .f32) (v : Vec F S64x1 .i32) :
    k0_pay5 v5 (k0_pay1 v84) (iota .tc S64x4096 32 [1] iota_S64x4096_d1_w32) v = k0_pay2 v5 v84 v := rfl
/-- What is computed of chunk `k` is `part`. -/
theorem part_eq (c : Dev nD) {k : ℕ} (hk : k < 4) : k0_pay2 (yw c) (tab m c) (idsAt m c hk) = part m c hk := rfl
/-- Sent rows are computed alike in every chunk. -/
theorem pay7_eq : k0_pay7 (F := F) = k0_pay6 := rfl
/-- Sent rows are computed alike in every chunk. -/
theorem pay8_eq : k0_pay8 (F := F) = k0_pay6 := rfl
/-- Sent rows are computed alike in every chunk. -/
theorem pay9_eq : k0_pay9 (F := F) = k0_pay6 := rfl
/-- Sums are computed alike in every chunk. -/
theorem pay14_eq (a : Vec F S64x512 .f32) (b : Vec F S1x64x512 .bf16) : k0_pay14 (k0_pay13 a) b = k0_pay10 a b := rfl
/-- Sent rows are computed alike in every chunk. -/
theorem pay15_eq (a : Vec F S64x512 .f32) (b : Vec F S1x64x512 .bf16) : k0_pay15 (k0_pay13 a) b = k0_pay12 (k0_pay11 a b) := rfl
/-- Sums are computed alike in every chunk. -/
theorem pay16_eq : k0_pay16 (F := F) = k0_pay10 := rfl
/-- Sent rows are computed alike in every chunk. -/
theorem pay17_eq (a : Vec F S64x512 .f32) (b : Vec F S1x64x512 .bf16) : k0_pay17 a b = k0_pay12 (k0_pay11 a b) := rfl
/-- Sums are computed alike in every chunk. -/
theorem pay18_eq : k0_pay18 (F := F) = k0_pay10 := rfl
/-- Sent rows are computed alike in every chunk. -/
theorem pay19_eq (a : Vec F S64x512 .f32) (b : Vec F S1x64x512 .bf16) : k0_pay19 a b = k0_pay12 (k0_pay11 a b) := rfl
/-- Received rows are computed alike in every chunk. -/
theorem pay21_eq : k0_pay21 (F := F) = k0_pay20 := rfl
/-- Received rows are computed alike in every chunk. -/
theorem pay22_eq : k0_pay22 (F := F) = k0_pay20 := rfl
/-- Received rows are computed alike in every chunk. -/
theorem pay23_eq : k0_pay23 (F := F) = k0_pay20 := rfl

/-! ## The moves -/

section Moves
variable (c : Dev nD)

/-- Starting the copy of one tile of the table. -/
theorem go_tab {k : ℕ} (hk : k < 8) {sem : DmaSem sig} (hs : sem = dS (n := 2 + k) (by omega))
    {hsrc : (tabM.slice (tileR hk) (fun _ => rfl)).view.WordExact} {hdst : (eM.slice (tileR hk) (fun _ => rfl)).view.WordExact}
    {hsem : DmaTarget.Typed (nD := nD) (τ := τ) (p := Proc.tc) .hbm (.dma sem) (.here (eM.slice (tileR hk) (fun _ => rfl)))}
    {α : Type} {Q : α → sProp 𝕄} {p : PUnit → Prog (TpuEff nD τ sig (Elt F) Λ₀ .tc) α} :
    iprop(ctx m K c ∗ tabGo m c hk)
      ⊢ iprop((tabFly c hk -∗ runs c (p ⟨⟩) Q)
          -∗ runs c (.op (.enqueueDma (tabM.slice (tileR hk) (fun _ => rfl)) (.here (eM.slice (tileR hk) (fun _ => rfl))) (.dma sem) hsrc hdst hsem) p) Q) := by
  unfold ctx tabGo tabFly tok
  iintro ⟨⟨#HR, #HB, -⟩, Ht, He, Hk⟩
  iapply (step_copy m K c hk hs (hsrc := hsrc) (hdst := hdst) (hsem := hsem) (p := p))
  isplitr; · iexact HR
  isplitr; · iexact HB
  isplitl [Ht]; · iexact Ht
  isplitl [He]; · iexact He
  iexact Hk

/-- Waiting for it: the tile holds the table's rows. -/
theorem wait_tab {k : ℕ} (hk : k < 8) {O : CellTallies nD τ sig Unit} (hO : above 0 O) {sem : DmaSem sig} (hs : sem = dS (n := 2 + k) (by omega))
    {hsrc : (tabM.slice (tileR hk) (fun _ => rfl)).view.WordExact} {hdst : (eM.slice (tileR hk) (fun _ => rfl)).view.WordExact}
    {α : Type} {Q : α → sProp 𝕄} {p : PUnit → Prog (TpuEff nD τ sig (Elt F) Λ₀ .tc) α} :
    iprop(ctx m K c ∗ tabFly c hk ∗ tabPos c hk ∗ owing c O)
      ⊢ iprop(((ePts c hk (tab m c) ∗ tabBack m c hk ∗ owing c O) -∗ runs c (p ⟨⟩) Q)
          -∗ runs c (.op (.waitDma2 sem (tabM.slice (tileR hk) (fun _ => rfl)) (eM.slice (tileR hk) (fun _ => rfl)) hsrc hdst) p) Q) := by
  unfold ctx tabFly tabPos tabBack pos zero
  iintro ⟨⟨#HR, #HB, #HL⟩, HC, Hp, HO⟩ Hk
  iapply (step_wait m K c (n := 2 + k) _ (by omega) NT (expect_tab m c _ (by omega) (by omega)) _ (pay_tab m c hk) 0
    (by show (if 22 ≤ 2 + k then 3 else if 14 ≤ 2 + k ∧ 2 + k < 18 then 2 else 0) ≤ 0; rw [if_neg (by omega), if_neg (by omega)]) hO hs (src := tabM.slice (tileR hk) (fun _ => rfl)) (dst := eM.slice (tileR hk) (fun _ => rfl)) (hsrc := hsrc) (hdst := hdst) rfl (p := p)) $$ [HC Hp HO]
  · isplitr; · iexact HR
    isplitr; · iexact HL
    isplitl [HC]; · iexact HC
    isplitl [HO]; · iexact HO
    iexact Hp
  iintro ⟨⟨He, Ht⟩, Hz, HO⟩
  iapply Hk
  isplitl [He]; · iexact He
  isplitl [Ht Hz]
  · isplitl [Ht] <;> iassumption
  iexact HO

/-- Loading the ids of one chunk. -/
theorem load_ids {k : ℕ} (hk : k < 4) {hl : idsM.view.LoadsAt (idsR c hk)}
    {α : Type} {Q : α → sProp 𝕄} {p : ((idsR c hk).shape.Idx → Elt F .i32) → Prog (TpuEff nD τ sig (Elt F) Λ₀ .tc) α} :
    idsPts m c ⊢ iprop((idsPts m c -∗ runs c (p (idsAt m c hk)) Q) -∗ runs c (.op (.load idsM (idsR c hk) hl) p) Q) := by
  unfold idsPts
  exact wp_load 𝒱₀ (c : Thread nD τ) none Set.univ (m := idsM) (Finset.subset_univ _)

/-- Loading the whole half table. -/
theorem load_all {hl : eM.view.LoadsAt (Rect.unit (s := S4096x512) ![0, 0] S4096x512.size inb_S4096x512_S4096x512_0_0)}
    {α : Type} {Q : α → sProp 𝕄} {p : (S4096x512.Idx → Elt F .f32) → Prog (TpuEff nD τ sig (Elt F) Λ₀ .tc) α} :
    eAll m c ⊢ iprop((eAll m c -∗ runs c (p (tab m c)) Q)
      -∗ runs c (.op (.load eM (Rect.unit (s := S4096x512) ![0, 0] S4096x512.size inb_S4096x512_S4096x512_0_0) hl) p) Q) := by
  unfold eAll
  have h : eM.view.readAt (Elt F) (Rect.unit (s := S4096x512) ![0, 0] S4096x512.size inb_S4096x512_S4096x512_0_0).toLoadRect (tab m c) = tab m c :=
    Memref.readAt_unit_zero (Elt F) cc0_scratch0 (by decide) _ _
  iintro H Hk
  iapply (wp_load 𝒱₀ (c : Thread nD τ) none Set.univ (m := eM) (Finset.subset_univ _)) $$ H
  iintro H
  rw [h]
  iapply Hk
  iexact H

/-- Sending one chunk along `y`. -/
theorem go_y {k n : ℕ} (hk : k < 4) (hn : k + n = 3) {d : Dev nD} (hd : d = yp c) {sS sR : DmaSem sig} (hS : sS = dS (n := 10 + k) (by omega)) (hR : sR = dS (n := 14 + k) (by omega))
    {hsc : (slotM yrM hk : Memref sig (Dev.tc d : Thread nD τ).2.kind .vmem S64x512 .bf16).view.ref.isScScratch = false}
    {hsrc : (slotM ysM hk).view.WordExact} {hdst : (slotM yrM hk).view.WordExact}
    {hsem : DmaTarget.Typed .vmem (.dma sR) (.remote (Dev.tc d : Thread nD τ) (slotM yrM hk) (.dma sS) hsc)}
    {α : Type} {Q : α → sProp 𝕄} {p : PUnit → Prog (TpuEff nD τ sig (Elt F) Λ₀ .tc) α} :
    iprop(ctx m K c ∗ yDst c hk ∗ yTok c hk ∗ yOut m c hk ∗ owing c (owesY c (n + 1)))
      ⊢ iprop(((yFly c hk ∗ owing c (owesY c n)) -∗ runs c (p ⟨⟩) Q)
          -∗ runs c (.op (.enqueueDma (slotM ysM hk) (.remote (Dev.tc d : Thread nD τ) (slotM yrM hk) (.dma sS) hsc) (.dma sR) hsrc hdst hsem) p) Q) := by
  have e : owesY c (n + 1) = owesY c n + tallyAt (dCell (yp c) (n := 14 + k) (by omega)) () N := by
    have e' : ∀ j (hj : j < 26), j = 17 - n → tallyAt (dCell (yp c) (n := 17 - n) (by omega)) () N = tallyAt (dCell (yp c) hj) () N := by rintro _ _ rfl; rfl
    show owesY c n + _ = _
    rw [e' (14 + k) (by omega) (by omega)]
  rw [e]
  unfold ctx yDst yTok yOut yFly tok
  iintro ⟨⟨#HR, #HB, #HL⟩, ⟨#Hr, Hd⟩, ⟨Ht, Ht'⟩, Hs, HO⟩
  iapply (step_send m K c (yp c) d hd ysM yrM hk (n := 10 + k) (n' := 14 + k) _ _ (by omega) (by omega) (partB m c hk)
    (pay_ys m c hk) (by rw [pay_yr m (yp c) hk, yp_yp]) rfl hS hR (owesY c n) (hsc := hsc) (hsrc := hsrc) (hdst := hdst) (hsem := hsem) (p := p))
  isplitr; · iexact HR
  isplitr; · iexact HB
  isplitr; · iexact Hr
  isplitl [Hs]; · iexact Hs
  isplitl [Hd]; · iexact Hd
  isplitl [HO]; · iexact HO
  isplitl [Ht]; · iexact Ht
  iexact Ht'

/-- Receiving one chunk along `y`: the peer's partial rows. -/
theorem wait_y {k : ℕ} (hk : k < 4) {O : CellTallies nD τ sig Unit} (hO : above 2 O) {sem : DmaSem sig} (hs : sem = dS (n := 14 + k) (by omega))
    {hsrc : (slotM ysM hk).view.WordExact} {hdst : (slotM yrM hk).view.WordExact}
    {α : Type} {Q : α → sProp 𝕄} {p : PUnit → Prog (TpuEff nD τ sig (Elt F) Λ₀ .tc) α} :
    iprop(ctx m K c ∗ yIn c hk ∗ owing c O)
      ⊢ iprop(((yGot m c hk ∗ zero c (14 + k) (by omega) ∗ owing c O) -∗ runs c (p ⟨⟩) Q)
          -∗ runs c (.op (.waitDma2 sem (slotM ysM hk) (slotM yrM hk) hsrc hdst) p) Q) := by
  unfold ctx yIn yGot pos zero
  iintro ⟨⟨#HR, #HB, #HL⟩, ⟨HC, Hp⟩, HO⟩
  iapply (step_wait m K c (n := 14 + k) _ (by omega) N (expect_dma m c _ (by omega)) _ (pay_yr m c hk) 2
    (by show (if 22 ≤ 14 + k then 3 else if 14 ≤ 14 + k ∧ 14 + k < 18 then 2 else 0) ≤ 2; split <;> [omega; (split <;> omega)]) hO hs (src := slotM ysM hk) (dst := slotM yrM hk) (hsrc := hsrc) (hdst := hdst) rfl (p := p))
  isplitr; · iexact HR
  isplitr; · iexact HL
  isplitl [HC]; · iexact HC
  isplitl [HO]; · iexact HO
  iexact Hp

/-- Waiting until a chunk sent along `y` has left. -/
theorem sent_y {k : ℕ} (hk : k < 4) {sem : DmaSem sig} (hs : sem = dS (n := 10 + k) (by omega))
    {hsrc : (slotM yrM hk).view.WordExact} {hdst : (slotM ysM hk).view.WordExact}
    {α : Type} {Q : α → sProp 𝕄} {p : PUnit → Prog (TpuEff nD τ sig (Elt F) Λ₀ .tc) α} :
    iprop(ctx m K c ∗ yFly c hk ∗ pos c (10 + k) (by omega) ∗ owing c 0)
      ⊢ iprop(((yOut m c hk ∗ zero c (10 + k) (by omega) ∗ owing c 0) -∗ runs c (p ⟨⟩) Q)
          -∗ runs c (.op (.waitDma2 sem (slotM yrM hk) (slotM ysM hk) hsrc hdst) p) Q) := by
  unfold ctx yFly yOut pos zero
  iintro ⟨⟨#HR, #HB, #HL⟩, HC, Hp, HO⟩
  iapply (step_wait m K c (n := 10 + k) _ (by omega) N (expect_dma m c _ (by omega)) _ (pay_ys m c hk) 3
    (by show (if 22 ≤ 10 + k then 3 else if 14 ≤ 10 + k ∧ 10 + k < 18 then 2 else 0) ≤ 3; split <;> [omega; (split <;> omega)]) (above_zero 3) hs (src := slotM yrM hk) (dst := slotM ysM hk) (hsrc := hsrc) (hdst := hdst) rfl (p := p))
  isplitr; · iexact HR
  isplitr; · iexact HL
  isplitl [HC]; · iexact HC
  isplitl [HO]; · iexact HO
  iexact Hp

/-- Sending one chunk along `x`. -/
theorem go_x {k n : ℕ} (hk : k < 4) (hn : k + n = 3) {d : Dev nD} (hd : d = xp c) {sS sR : DmaSem sig} (hS : sS = dS (n := 18 + k) (by omega)) (hR : sR = dS (n := 22 + k) (by omega))
    {hsc : (slotM xrM hk : Memref sig (Dev.tc d : Thread nD τ).2.kind .vmem S64x512 .bf16).view.ref.isScScratch = false}
    {hsrc : (slotM xsM hk).view.WordExact} {hdst : (slotM xrM hk).view.WordExact}
    {hsem : DmaTarget.Typed .vmem (.dma sR) (.remote (Dev.tc d : Thread nD τ) (slotM xrM hk) (.dma sS) hsc)}
    {α : Type} {Q : α → sProp 𝕄} {p : PUnit → Prog (TpuEff nD τ sig (Elt F) Λ₀ .tc) α} :
    iprop(ctx m K c ∗ xDst c hk ∗ xTok c hk ∗ xOut m c hk ∗ owing c (owesX c (n + 1)))
      ⊢ iprop(((xFly c hk ∗ owing c (owesX c n)) -∗ runs c (p ⟨⟩) Q)
          -∗ runs c (.op (.enqueueDma (slotM xsM hk) (.remote (Dev.tc d : Thread nD τ) (slotM xrM hk) (.dma sS) hsc) (.dma sR) hsrc hdst hsem) p) Q) := by
  have e : owesX c (n + 1) = owesX c n + tallyAt (dCell (xp c) (n := 22 + k) (by omega)) () N := by
    have e' : ∀ j (hj : j < 26), j = 25 - n → tallyAt (dCell (xp c) (n := 25 - n) (by omega)) () N = tallyAt (dCell (xp c) hj) () N := by rintro _ _ rfl; rfl
    show owesX c n + _ = _
    rw [e' (22 + k) (by omega) (by omega)]
  rw [e]
  unfold ctx xDst xTok xOut xFly tok
  iintro ⟨⟨#HR, #HB, #HL⟩, ⟨#Hr, Hd⟩, ⟨Ht, Ht'⟩, Hs, HO⟩
  iapply (step_send m K c (xp c) d hd xsM xrM hk (n := 18 + k) (n' := 22 + k) _ _ (by omega) (by omega) (redB m c hk)
    (pay_xs m c hk) (by rw [pay_xr m (xp c) hk, xp_xp]) rfl hS hR (owesX c n) (hsc := hsc) (hsrc := hsrc) (hdst := hdst) (hsem := hsem) (p := p))
  isplitr; · iexact HR
  isplitr; · iexact HB
  isplitr; · iexact Hr
  isplitl [Hs]; · iexact Hs
  isplitl [Hd]; · iexact Hd
  isplitl [HO]; · iexact HO
  isplitl [Ht]; · iexact Ht
  iexact Ht'

/-- Receiving one chunk along `x`: the peer's finished rows. -/
theorem wait_x {k : ℕ} (hk : k < 4) {O : CellTallies nD τ sig Unit} (hO : above 3 O) {sem : DmaSem sig} (hs : sem = dS (n := 22 + k) (by omega))
    {hsrc : (slotM xsM hk).view.WordExact} {hdst : (slotM xrM hk).view.WordExact}
    {α : Type} {Q : α → sProp 𝕄} {p : PUnit → Prog (TpuEff nD τ sig (Elt F) Λ₀ .tc) α} :
    iprop(ctx m K c ∗ xIn c hk ∗ owing c O)
      ⊢ iprop(((xGot m c hk ∗ zero c (22 + k) (by omega) ∗ owing c O) -∗ runs c (p ⟨⟩) Q)
          -∗ runs c (.op (.waitDma2 sem (slotM xsM hk) (slotM xrM hk) hsrc hdst) p) Q) := by
  unfold ctx xIn xGot pos zero
  iintro ⟨⟨#HR, #HB, #HL⟩, ⟨HC, Hp⟩, HO⟩
  iapply (step_wait m K c (n := 22 + k) _ (by omega) N (expect_dma m c _ (by omega)) _ (pay_xr m c hk) 3
    (by show (if 22 ≤ 22 + k then 3 else if 14 ≤ 22 + k ∧ 22 + k < 18 then 2 else 0) ≤ 3; split <;> [omega; (split <;> omega)]) hO hs (src := slotM xsM hk) (dst := slotM xrM hk) (hsrc := hsrc) (hdst := hdst) rfl (p := p))
  isplitr; · iexact HR
  isplitr; · iexact HL
  isplitl [HC]; · iexact HC
  isplitl [HO]; · iexact HO
  iexact Hp

/-- Waiting until a chunk sent along `x` has left. -/
theorem sent_x {k : ℕ} (hk : k < 4) {sem : DmaSem sig} (hs : sem = dS (n := 18 + k) (by omega))
    {hsrc : (slotM xrM hk).view.WordExact} {hdst : (slotM xsM hk).view.WordExact}
    {α : Type} {Q : α → sProp 𝕄} {p : PUnit → Prog (TpuEff nD τ sig (Elt F) Λ₀ .tc) α} :
    iprop(ctx m K c ∗ xFly c hk ∗ pos c (18 + k) (by omega) ∗ owing c 0)
      ⊢ iprop(((xOut m c hk ∗ zero c (18 + k) (by omega) ∗ owing c 0) -∗ runs c (p ⟨⟩) Q)
          -∗ runs c (.op (.waitDma2 sem (slotM xrM hk) (slotM xsM hk) hsrc hdst) p) Q) := by
  unfold ctx xFly xOut pos zero
  iintro ⟨⟨#HR, #HB, #HL⟩, HC, Hp, HO⟩
  iapply (step_wait m K c (n := 18 + k) _ (by omega) N (expect_dma m c _ (by omega)) _ (pay_xs m c hk) 3
    (by show (if 22 ≤ 18 + k then 3 else if 14 ≤ 18 + k ∧ 18 + k < 18 then 2 else 0) ≤ 3; split <;> [omega; (split <;> omega)]) (above_zero 3) hs (src := slotM xrM hk) (dst := slotM xsM hk) (hsrc := hsrc) (hdst := hdst) rfl (p := p))
  isplitr; · iexact HR
  isplitr; · iexact HL
  isplitl [HC]; · iexact HC
  isplitl [HO]; · iexact HO
  iexact Hp

end Moves

end Cert.EmbedProof

end
-- ==== Proof.Tiles.lean ====
/-
# The barrier's payloads, and the tiles of the table
-/
module

public import proofs.«01_k».proof.Proof.Moves

@[expose] public section

noncomputable section

namespace Cert.EmbedProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : GSem nD τ sig → ℕ)

/-! ## The barrier's payloads; the fast copy whole -/

/-- The slots a device receives in along `y`, as its `y` neighbour's barrier is paid with them. -/
theorem barY_mk (c : Dev nD) : iprop(ctx m K c ∗ slotsAny c yrM) ⊢ (barPay (yp c) false : sProp 𝕄) := by
  show _ ⊢ iprop(slotsAny (yp (yp c)) yrM ∗ reached ER (dCell (yp (yp c)) (n := 14) (by decide)) 0 ∗ reached ER (dCell (yp (yp c)) (n := 15) (by decide)) 0
      ∗ reached ER (dCell (yp (yp c)) (n := 16) (by decide)) 0 ∗ reached ER (dCell (yp (yp c)) (n := 17) (by decide)) 0)
  rw [yp_yp]
  unfold ctx
  iintro ⟨⟨-, #HB, -⟩, HS⟩
  isplitl [HS]; · iexact HS
  isplitr; · iapply (reached_dma c (n := 14) _ (by decide)); iexact HB
  isplitr; · iapply (reached_dma c (n := 15) _ (by decide)); iexact HB
  isplitr; · iapply (reached_dma c (n := 16) _ (by decide)); iexact HB
  iapply (reached_dma c (n := 17) _ (by decide)); iexact HB

/-- What a device hands its peer along `x` with the barrier's signal: the slots that the peer will write. -/
theorem barX_mk (c : Dev nD) : iprop(ctx m K c ∗ slotsAny c xrM) ⊢ (barPay (xp c) true : sProp 𝕄) := by
  show _ ⊢ iprop(slotsAny (xp (xp c)) xrM ∗ reached ER (dCell (xp (xp c)) (n := 22) (by decide)) 0 ∗ reached ER (dCell (xp (xp c)) (n := 23) (by decide)) 0
      ∗ reached ER (dCell (xp (xp c)) (n := 24) (by decide)) 0 ∗ reached ER (dCell (xp (xp c)) (n := 25) (by decide)) 0)
  rw [xp_xp]
  unfold ctx
  iintro ⟨⟨-, #HB, -⟩, HS⟩
  isplitl [HS]; · iexact HS
  isplitr; · iapply (reached_dma c (n := 22) _ (by decide)); iexact HB
  isplitr; · iapply (reached_dma c (n := 23) _ (by decide)); iexact HB
  isplitr; · iapply (reached_dma c (n := 24) _ (by decide)); iexact HB
  iapply (reached_dma c (n := 25) _ (by decide)); iexact HB

/-- What a device finds in its own barrier, chunk by chunk. -/
theorem barY_dst (c : Dev nD) : (barPay c false : sProp 𝕄) ⊢ iprop(yDst c l0 ∗ yDst c l1 ∗ yDst c l2 ∗ yDst c l3) := by
  unfold barPay slotsAny yDst
  iintro ⟨⟨H0, H1, H2, H3⟩, #R0, #R1, #R2, #R3⟩
  isplitl [H0]
  · isplitr; · iexact R0
    iexact H0
  isplitl [H1]
  · isplitr; · iexact R1
    iexact H1
  isplitl [H2]
  · isplitr; · iexact R2
    iexact H2
  isplitr; · iexact R3
  iexact H3
/-- What arrives with that signal: the four slots that the device will send into. -/
theorem barX_dst (c : Dev nD) : (barPay c true : sProp 𝕄) ⊢ iprop(xDst c l0 ∗ xDst c l1 ∗ xDst c l2 ∗ xDst c l3) := by
  unfold barPay slotsAny xDst
  iintro ⟨⟨H0, H1, H2, H3⟩, #R0, #R1, #R2, #R3⟩
  isplitl [H0]
  · isplitr; · iexact R0
    iexact H0
  isplitl [H1]
  · isplitr; · iexact R1
    iexact H1
  isplitl [H2]
  · isplitr; · iexact R2
    iexact H2
  isplitr; · iexact R3
  iexact H3

/-- The eight tiles of the fast copy cover it, and are disjoint. -/
theorem tile_mem {k : ℕ} (hk : k < 8) (i : S4096x512.Idx) : i ∈ (tileR hk).set ↔ (i 0).val / 512 = k := by
  rw [Rect.mem_set_unit]
  have h1 : (i 1).val < 512 := (i 1).isLt
  constructor
  · intro h
    have h0 := h 0
    have e0 : (![512 * k, 0] : Fin 2 → ℕ) 0 = 512 * k := rfl
    have e1 : S512x512.size 0 = 512 := rfl
    rw [e0, e1] at h0
    omega
  · intro h a
    match a with
    | ⟨0, _⟩ => show 512 * k ≤ (i 0).val ∧ (i 0).val < 512 * k + 512; omega
    | ⟨1, _⟩ => show 0 ≤ (i 1).val ∧ (i 1).val < 0 + 512; omega

/-- The tile of row `i`. -/
theorem tiles_cover : (Finset.univ : Finset (Fin 8)).biUnion (fun k => (tileR k.isLt).set) = (Finset.univ : Finset S4096x512.Idx) := by
  refine Finset.eq_univ_iff_forall.mpr fun i => Finset.mem_biUnion.mpr ?_
  have h0 : (i 0).val < 4096 := (i 0).isLt
  exact ⟨⟨(i 0).val / 512, by omega⟩, Finset.mem_univ _, (tile_mem _ i).mpr rfl⟩
/-- Different tiles of the table do not meet. -/
theorem tiles_disjoint : ∀ k ∈ (Finset.univ : Finset (Fin 8)), ∀ k' ∈ (Finset.univ : Finset (Fin 8)), k ≠ k' →
    Disjoint (tileR k.isLt).set (tileR k'.isLt).set := by
  intro k _ k' _ h
  refine Finset.disjoint_left.mpr fun i hi hi' => h (Fin.ext ?_)
  rw [← (tile_mem k.isLt i).mp hi, ← (tile_mem k'.isLt i).mp hi']

/-- A conjunction over eight, written out. -/
theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide]
  repeat rw [bigSep_insert (by decide)]
  rw [bigSep_singleton]
  rfl

/-- The fast copy whole is its tiles. -/
theorem e_tiles (c : Dev nD) (f : Vec F S4096x512 .f32) :
    (eM.view.loc (c : Thread nD τ) ↦{fullShare} f : sProp 𝕄)
      = iprop(ePts c t0 f ∗ ePts c t1 f ∗ ePts c t2 f ∗ ePts c t3 f ∗ ePts c t4 f ∗ ePts c t5 f ∗ ePts c t6 f ∗ ePts c t7 f) := by
  have h := pointsTo_biUnion (Ix := Unit) (Name := ℕ) (U := UU) (Lvl := ℕ) (ℓ := eM.view.loc (c : Thread nD τ)) (q := fullShare) (f := f)
    (Finset.univ : Finset (Fin 8)) (fun k => (tileR k.isLt).set) tiles_disjoint
  rw [tiles_cover, bigSep_eight] at h
  refine h.trans ?_
  unfold ePts
  simp only [Memref.view_slice, Memref.view_whole, View.set_slice_whole]
  rfl
/-- The eight landed tiles make the whole half table. -/
theorem e_join (c : Dev nD) :
    iprop(ePts c t0 (tab m c) ∗ ePts c t1 (tab m c) ∗ ePts c t2 (tab m c) ∗ ePts c t3 (tab m c) ∗ ePts c t4 (tab m c) ∗ ePts c t5 (tab m c)
      ∗ ePts c t6 (tab m c) ∗ ePts c t7 (tab m c)) ⊢ (eAll m c : sProp 𝕄) := Entails.of_eq (e_tiles c (tab m c)).symm
/-- The table's half whole is its tiles. -/
theorem tab_tiles (c : Dev nD) :
    (tabM.view.loc (c : Thread nD τ) ↦{fullShare} tab m c : sProp 𝕄)
      = iprop(tabPts m c t0 ∗ tabPts m c t1 ∗ tabPts m c t2 ∗ tabPts m c t3 ∗ tabPts m c t4 ∗ tabPts m c t5 ∗ tabPts m c t6 ∗ tabPts m c t7) := by
  have h := pointsTo_biUnion (Ix := Unit) (Name := ℕ) (U := UU) (Lvl := ℕ) (ℓ := tabM.view.loc (c : Thread nD τ)) (q := fullShare) (f := tab m c)
    (Finset.univ : Finset (Fin 8)) (fun k => (tileR k.isLt).set) tiles_disjoint
  rw [tiles_cover, bigSep_eight] at h
  refine h.trans ?_
  unfold tabPts
  simp only [Memref.view_slice, Memref.view_whole, View.set_slice_whole]
  rfl

end Cert.EmbedProof

end
-- ==== Proof.PartsA.lean ====
/-
# The body of the embedding lookup, part by part

What each printed part of the kernel needs, what it leaves, and the words later parts are called with.
-/
module

public import proofs.«01_k».proof.Proof.Tiles

@[expose] public section

noncomputable section

namespace Cert.EmbedProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : GSem nD τ sig → ℕ)

/-- The first four copies of table rows are issued. -/
theorem part1 (c : Dev nD)  {Q : _ → sProp 𝕄} :
    iprop(ctx m K c ∗ tabGo m c t0 ∗ tabGo m c t1 ∗ tabGo m c t2 ∗ tabGo m c t3)
      ⊢ iprop((∀ v6 v8, (tabFly c t0 ∗ tabFly c t1 ∗ tabFly c t2 ∗ tabFly c t3) -∗ Q ⟨c, xw c, yw c, v6, v8⟩) -∗ runs c (k0_part1 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 ) Q) := by
  simp only [k0_part1_eq_skeleton]; unfold k0_part1_skel
  simp only [semSignalWord, semWaitWord, Prog.lift, Prog.bind_op, Prog.bind_ret, Prog.pure_eq_ret, wp_deviceId]
  iintro ⟨#HC, tT0, tT1, tT2, tT3⟩ HQ
  iapply (go_tab m K c t0 rfl) $$ [tT0]
  · isplitr; · iexact HC
    iexact tT0
  iintro tF0
  iapply (go_tab m K c t1 rfl) $$ [tT1]
  · isplitr; · iexact HC
    iexact tT1
  iintro tF1
  iapply (go_tab m K c t2 rfl) $$ [tT2]
  · isplitr; · iexact HC
    iexact tT2
  iintro tF2
  iapply (go_tab m K c t3 rfl) $$ [tT3]
  · isplitr; · iexact HC
    iexact tT3
  iintro tF3
  unfold runs; rw [wp_ret]; imodintro; iapply HQ
  isplitl [tF0]; · iexact tF0
  isplitl [tF1]; · iexact tF1
  isplitl [tF2]; · iexact tF2
  iexact tF3

/-- The other four copies are issued; both neighbours are signalled, and handed the slots they copy into. -/
theorem part2 (c : Dev nD) (v2 v5 : BitVec 32) {Q : _ → sProp 𝕄} :
    iprop(ctx m K c ∗ tabGo m c t4 ∗ tabGo m c t5 ∗ tabGo m c t6 ∗ tabGo m c t7 ∗ slotsAny c yrM ∗ slotsAny c xrM ∗ dutyTok ER (barCell (yp c)) 0 false ∗ dutyTok ER (barCell (xp c)) 0 true ∗ owing c (O₀ c))
      ⊢ iprop(((tabFly c t4 ∗ tabFly c t5 ∗ tabFly c t6 ∗ tabFly c t7 ∗ owing c (owesY c 4)) -∗ Q (SemArray.scalar (sig.barrier 0 rfl))) -∗ runs c (k0_part2 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v2 v5) Q) := by
  simp only [k0_part2_eq_skeleton]; unfold k0_part2_skel
  simp only [semSignalWord, semWaitWord, Prog.lift, Prog.bind_op, Prog.bind_ret, Prog.pure_eq_ret, wp_deviceId]
  iintro ⟨#HC, tT4, tT5, tT6, tT7, SAY, SAX, BTY, BTX, HO⟩ HQ
  iapply (go_tab m K c t4 rfl) $$ [tT4]
  · isplitr; · iexact HC
    iexact tT4
  iintro tF4
  iapply (go_tab m K c t5 rfl) $$ [tT5]
  · isplitr; · iexact HC
    iexact tT5
  iintro tF5
  iapply (go_tab m K c t6 rfl) $$ [tT6]
  · isplitr; · iexact HC
    iexact tT6
  iintro tF6
  iapply (go_tab m K c t7 rfl) $$ [tT7]
  · isplitr; · iexact HC
    iexact tT7
  iintro tF7
  ihave Hy := (barY_mk m K c) $$ [SAY]
  · isplitr; · iexact HC
    iexact SAY
  ihave Hx := (barX_mk m K c) $$ [SAX]
  · isplitr; · iexact HC
    iexact SAX
  unfold ctx; icases HC with ⟨#HR, -, -⟩; unfold O₀
  iapply (step_signal m K c (yp c) _ (dev1_eq c) false (owesY c 4 + tallyAt (barCell (xp c)) () 1)) $$ [HO BTY Hy]
  · isplitr; · iexact HR
    isplitl [HO]; · iexact HO
    isplitl [BTY] <;> iassumption
  iintro HO
  iapply (step_signal m K c (xp c) _ (dev2_eq c) true (owesY c 4)) $$ [HO BTX Hx]
  · isplitr; · iexact HR
    isplitl [HO]; · iexact HO
    isplitl [BTX] <;> iassumption
  iintro HO
  unfold runs; rw [wp_ret]; imodintro; iapply HQ
  isplitl [tF4]; · iexact tF4
  isplitl [tF5]; · iexact tF5
  isplitl [tF6]; · iexact tF6
  isplitl [tF7]; · iexact tF7
  iexact HO

/-- Six of the copies of table rows have landed. -/
theorem part3 (c : Dev nD)  {Q : _ → sProp 𝕄} :
    iprop(ctx m K c ∗ tabFly c t0 ∗ tabPos c t0 ∗ tabFly c t1 ∗ tabPos c t1 ∗ tabFly c t2 ∗ tabPos c t2 ∗ tabFly c t3 ∗ tabPos c t3 ∗ tabFly c t4 ∗ tabPos c t4 ∗ tabFly c t5 ∗ tabPos c t5 ∗ owing c (owesY c 4))
      ⊢ iprop(((ePts c t0 (tab m c) ∗ tabBack m c t0 ∗ ePts c t1 (tab m c) ∗ tabBack m c t1 ∗ ePts c t2 (tab m c) ∗ tabBack m c t2 ∗ ePts c t3 (tab m c) ∗ tabBack m c t3 ∗ ePts c t4 (tab m c) ∗ tabBack m c t4 ∗ ePts c t5 (tab m c) ∗ tabBack m c t5 ∗ owing c (owesY c 4)) -∗ Q ⟨⟩) -∗ runs c (k0_part3 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 ) Q) := by
  simp only [k0_part3_eq_skeleton]; unfold k0_part3_skel
  simp only [semSignalWord, semWaitWord, Prog.lift, Prog.bind_op, Prog.bind_ret, Prog.pure_eq_ret, wp_deviceId]
  iintro ⟨#HC, tF0, tP0, tF1, tP1, tF2, tP2, tF3, tP3, tF4, tP4, tF5, tP5, HO⟩ HQ
  iapply (wait_tab m K c t0 (O := owesY c 4) (above_mono (by decide) (above_owesY c 4 le_rfl)) rfl) $$ [tF0 tP0 HO]
  · isplitr; · iexact HC
    isplitl [tF0]; · iexact tF0
    isplitl [tP0]; · iexact tP0
    iexact HO
  iintro ⟨tE0, tB0, HO⟩
  iapply (wait_tab m K c t1 (O := owesY c 4) (above_mono (by decide) (above_owesY c 4 le_rfl)) rfl) $$ [tF1 tP1 HO]
  · isplitr; · iexact HC
    isplitl [tF1]; · iexact tF1
    isplitl [tP1]; · iexact tP1
    iexact HO
  iintro ⟨tE1, tB1, HO⟩
  iapply (wait_tab m K c t2 (O := owesY c 4) (above_mono (by decide) (above_owesY c 4 le_rfl)) rfl) $$ [tF2 tP2 HO]
  · isplitr; · iexact HC
    isplitl [tF2]; · iexact tF2
    isplitl [tP2]; · iexact tP2
    iexact HO
  iintro ⟨tE2, tB2, HO⟩
  iapply (wait_tab m K c t3 (O := owesY c 4) (above_mono (by decide) (above_owesY c 4 le_rfl)) rfl) $$ [tF3 tP3 HO]
  · isplitr; · iexact HC
    isplitl [tF3]; · iexact tF3
    isplitl [tP3]; · iexact tP3
    iexact HO
  iintro ⟨tE3, tB3, HO⟩
  iapply (wait_tab m K c t4 (O := owesY c 4) (above_mono (by decide) (above_owesY c 4 le_rfl)) rfl) $$ [tF4 tP4 HO]
  · isplitr; · iexact HC
    isplitl [tF4]; · iexact tF4
    isplitl [tP4]; · iexact tP4
    iexact HO
  iintro ⟨tE4, tB4, HO⟩
  iapply (wait_tab m K c t5 (O := owesY c 4) (above_mono (by decide) (above_owesY c 4 le_rfl)) rfl) $$ [tF5 tP5 HO]
  · isplitr; · iexact HC
    isplitl [tF5]; · iexact tF5
    isplitl [tP5]; · iexact tP5
    iexact HO
  iintro ⟨tE5, tB5, HO⟩
  unfold runs; rw [wp_ret]; imodintro; iapply HQ
  isplitl [tE0]; · iexact tE0
  isplitl [tB0]; · iexact tB0
  isplitl [tE1]; · iexact tE1
  isplitl [tB1]; · iexact tB1
  isplitl [tE2]; · iexact tE2
  isplitl [tB2]; · iexact tB2
  isplitl [tE3]; · iexact tE3
  isplitl [tB3]; · iexact tB3
  isplitl [tE4]; · iexact tE4
  isplitl [tB4]; · iexact tB4
  isplitl [tE5]; · iexact tE5
  isplitl [tB5]; · iexact tB5
  iexact HO

/-- The rest of the copies have landed; the first two chunks are looked up. -/
theorem part4 (c : Dev nD) (v6 : BitVec 32) {Q : _ → sProp 𝕄} :
    iprop(ctx m K c ∗ ePts c t0 (tab m c) ∗ ePts c t1 (tab m c) ∗ ePts c t2 (tab m c) ∗ ePts c t3 (tab m c) ∗ ePts c t4 (tab m c) ∗ ePts c t5 (tab m c) ∗ tabFly c t6 ∗ tabPos c t6 ∗ tabFly c t7 ∗ tabPos c t7 ∗ idsPts m c ∗ owing c (owesY c 4))
      ⊢ iprop(((tabBack m c t6 ∗ tabBack m c t7 ∗ eAll m c ∗ idsPts m c ∗ owing c (owesY c 4)) -∗ Q ⟨k0_pay1 (tab m c), (iota .tc S64x4096 32 [1] iota_S64x4096_d1_w32), part m c l0, part m c l1, 128#32⟩) -∗ runs c (k0_part4 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c (yw c) v6) Q) := by
  simp only [k0_part4_eq_skeleton]; unfold k0_part4_skel
  simp only [semSignalWord, semWaitWord, Prog.lift, Prog.bind_op, Prog.bind_ret, Prog.pure_eq_ret, wp_deviceId, pay3_eq]
  iintro ⟨#HC, tE0, tE1, tE2, tE3, tE4, tE5, tF6, tP6, tF7, tP7, IDS, HO⟩ HQ
  iapply (wait_tab m K c t6 (O := owesY c 4) (above_mono (by decide) (above_owesY c 4 le_rfl)) rfl) $$ [tF6 tP6 HO]
  · isplitr; · iexact HC
    isplitl [tF6]; · iexact tF6
    isplitl [tP6]; · iexact tP6
    iexact HO
  iintro ⟨tE6, tB6, HO⟩
  iapply (wait_tab m K c t7 (O := owesY c 4) (above_mono (by decide) (above_owesY c 4 le_rfl)) rfl) $$ [tF7 tP7 HO]
  · isplitr; · iexact HC
    isplitl [tF7]; · iexact tF7
    isplitl [tP7]; · iexact tP7
    iexact HO
  iintro ⟨tE7, tB7, HO⟩
  ihave EA := (e_join m c) $$ [tE0 tE1 tE2 tE3 tE4 tE5 tE6 tE7]
  · isplitl [tE0]; · iexact tE0
    isplitl [tE1]; · iexact tE1
    isplitl [tE2]; · iexact tE2
    isplitl [tE3]; · iexact tE3
    isplitl [tE4]; · iexact tE4
    isplitl [tE5]; · iexact tE5
    isplitl [tE6]; · iexact tE6
    iexact tE7
  iapply (load_all m c) $$ [EA]
  · iexact EA
  iintro EA
  iapply (load_ids m c l0) $$ [IDS]
  · iexact IDS
  iintro IDS
  iapply (load_ids m c l1) $$ [IDS]
  · iexact IDS
  iintro IDS
  simp only [part_eq]
  unfold runs; rw [wp_ret]; imodintro; iapply HQ
  isplitl [tB6]; · iexact tB6
  isplitl [tB7]; · iexact tB7
  isplitl [EA]; · iexact EA
  isplitl [IDS]; · iexact IDS
  iexact HO

/-- The other two chunks are looked up; both neighbours are ready, and their slots are ours; the first chunk is stored, and rounded for sending. -/
theorem part5 (c : Dev nD) (v2 v6 : BitVec 32) {Q : _ → sProp 𝕄} :
    iprop(ctx m K c ∗ idsPts m c ∗ cred (tallyAt (barCell c) () 2) ∗ atPos ER (barCell c) 0 ∅ 0 ∗ holdsAny c outM (mineR c l0) ∗ holdsAny c ysM (slotR l0) ∗ owing c (owesY c 4))
      ⊢ iprop((∀ v146 v148, (idsPts m c ∗ semVal (barCell c) 0 ∗ yDst c l0 ∗ yDst c l1 ∗ yDst c l2 ∗ yDst c l3 ∗ xDst c l0 ∗ xDst c l1 ∗ xDst c l2 ∗ xDst c l3 ∗ holds c outM (mineR c l0) (part m c l0) ∗ yOut m c l0 ∗ owing c (owesY c 4)) -∗ Q ⟨part m c l2, part m c l3, v146, v148⟩) -∗ runs c (k0_part5 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v2 (yw c) v6 (SemArray.scalar (sig.barrier 0 rfl)) (k0_pay1 (tab m c)) (iota .tc S64x4096 32 [1] iota_S64x4096_d1_w32) (part m c l0) 128#32) Q) := by
  simp only [k0_part5_eq_skeleton]; unfold k0_part5_skel
  simp only [semSignalWord, semWaitWord, Prog.lift, Prog.bind_op, Prog.bind_ret, Prog.pure_eq_ret, wp_deviceId]
  iintro ⟨#HC, IDS, BC, BP, MA0, YSA0, HO⟩ HQ
  iapply (load_ids m c l2) $$ [IDS]
  · iexact IDS
  iintro IDS
  iapply (load_ids m c l3) $$ [IDS]
  · iexact IDS
  iintro IDS
  unfold ctx; icases HC with ⟨#HR, #HB, #HL⟩
  iapply (step_barrier m K c (O := owesY c 4) (above_owesY c 4 le_rfl)) $$ [BC BP HO]
  · isplitr; · iexact HR
    isplitr; · iexact HL
    isplitl [BC]; · iexact BC
    isplitl [HO]; · iexact HO
    iexact BP
  iintro ⟨Hy, Hx, BZ, HO⟩
  ihave Hy := (barY_dst c) $$ Hy
  ihave Hx := (barX_dst c) $$ Hx
  icases Hy with ⟨YD0, YD1, YD2, YD3⟩
  icases Hx with ⟨XD0, XD1, XD2, XD3⟩
  iapply (step_over c outM (mineR c l0) (w := part m c l0)) $$ [MA0]
  · iexact MA0
  iintro MP0
  iapply (step_over c ysM (slotR l0) (w := partB m c l0)) $$ [YSA0]
  · iexact YSA0
  iintro YO0
  rw [pay4_eq, pay5_eq, part_eq m c l2, part_eq m c l3]
  unfold runs; rw [wp_ret]; imodintro; iapply HQ
  isplitl [IDS]; · iexact IDS
  isplitl [BZ]; · iexact BZ
  isplitl [YD0]; · iexact YD0
  isplitl [YD1]; · iexact YD1
  isplitl [YD2]; · iexact YD2
  isplitl [YD3]; · iexact YD3
  isplitl [XD0]; · iexact XD0
  isplitl [XD1]; · iexact XD1
  isplitl [XD2]; · iexact XD2
  isplitl [XD3]; · iexact XD3
  isplitl [MP0]; · iexact MP0
  isplitl [YO0]; · iexact YO0
  iexact HO

end Cert.EmbedProof

end
-- ==== Proof.PartsB.lean ====
/-
# The body of the embedding lookup, part by part

What each printed part of the kernel needs, what it leaves, and the words later parts are called with.
-/
module

public import proofs.«01_k».proof.Proof.Tiles

@[expose] public section

noncomputable section

namespace Cert.EmbedProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : GSem nD τ sig → ℕ)

/-- Chunks 0 and 1 go along `y`. -/
theorem part6 (c : Dev nD) (v2 v5 v6 v146 v148 : BitVec 32) {Q : _ → sProp 𝕄} :
    iprop(ctx m K c ∗ yDst c l0 ∗ yTok c l0 ∗ yOut m c l0 ∗ holdsAny c outM (mineR c l1) ∗ holdsAny c ysM (slotR l1) ∗ yDst c l1 ∗ yTok c l1 ∗ owing c (owesY c 4))
      ⊢ iprop((∀ v166, (yFly c l0 ∗ holds c outM (mineR c l1) (part m c l1) ∗ yFly c l1 ∗ owing c (owesY c 2)) -∗ Q v166) -∗ runs c (k0_part6 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v2 v5 v6 (part m c l1) v146 v148) Q) := by
  simp only [k0_part6_eq_skeleton]; unfold k0_part6_skel
  simp only [semSignalWord, semWaitWord, Prog.lift, Prog.bind_op, Prog.bind_ret, Prog.pure_eq_ret, wp_deviceId, pay7_eq]
  iintro ⟨#HC, YD0, YT0, YO0, MA1, YSA1, YD1, YT1, HO⟩ HQ
  iapply (go_y m K c l0 (n := 3) rfl (dev3_eq c) rfl rfl) $$ [YD0 YT0 YO0 HO]
  · isplitr; · iexact HC
    isplitl [YD0]; · iexact YD0
    isplitl [YT0]; · iexact YT0
    isplitl [YO0]; · iexact YO0
    iexact HO
  iintro ⟨YF0, HO⟩
  iapply (step_over c outM (mineR c l1) (w := part m c l1)) $$ [MA1]
  · iexact MA1
  iintro MP1
  iapply (step_over c ysM (slotR l1) (w := partB m c l1)) $$ [YSA1]
  · iexact YSA1
  iintro YO1
  iapply (go_y m K c l1 (n := 2) rfl (dev4_eq c) rfl rfl) $$ [YD1 YT1 YO1 HO]
  · isplitr; · iexact HC
    isplitl [YD1]; · iexact YD1
    isplitl [YT1]; · iexact YT1
    isplitl [YO1]; · iexact YO1
    iexact HO
  iintro ⟨YF1, HO⟩
  unfold runs; rw [wp_ret]; imodintro; iapply HQ
  isplitl [YF0]; · iexact YF0
  isplitl [MP1]; · iexact MP1
  isplitl [YF1]; · iexact YF1
  iexact HO

/-- Chunk 2 goes along `y`, chunk 3 is ready to. -/
theorem part7 (c : Dev nD) (v2 v5 v6 : BitVec 32) {Q : _ → sProp 𝕄} :
    iprop(ctx m K c ∗ holdsAny c outM (mineR c l2) ∗ holdsAny c ysM (slotR l2) ∗ yDst c l2 ∗ yTok c l2 ∗ holdsAny c outM (mineR c l3) ∗ holdsAny c ysM (slotR l3) ∗ owing c (owesY c 2))
      ⊢ iprop((∀ v186 v206 v208, (holds c outM (mineR c l2) (part m c l2) ∗ yFly c l2 ∗ holds c outM (mineR c l3) (part m c l3) ∗ yOut m c l3 ∗ owing c (owesY c 1)) -∗ Q ⟨v186, v206, v208⟩) -∗ runs c (k0_part7 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v2 v5 v6 (part m c l2) (part m c l3)) Q) := by
  simp only [k0_part7_eq_skeleton]; unfold k0_part7_skel
  simp only [semSignalWord, semWaitWord, Prog.lift, Prog.bind_op, Prog.bind_ret, Prog.pure_eq_ret, wp_deviceId, pay8_eq, pay9_eq]
  iintro ⟨#HC, MA2, YSA2, YD2, YT2, MA3, YSA3, HO⟩ HQ
  iapply (step_over c outM (mineR c l2) (w := part m c l2)) $$ [MA2]
  · iexact MA2
  iintro MP2
  iapply (step_over c ysM (slotR l2) (w := partB m c l2)) $$ [YSA2]
  · iexact YSA2
  iintro YO2
  iapply (go_y m K c l2 (n := 1) rfl (dev5_eq c) rfl rfl) $$ [YD2 YT2 YO2 HO]
  · isplitr; · iexact HC
    isplitl [YD2]; · iexact YD2
    isplitl [YT2]; · iexact YT2
    isplitl [YO2]; · iexact YO2
    iexact HO
  iintro ⟨YF2, HO⟩
  iapply (step_over c outM (mineR c l3) (w := part m c l3)) $$ [MA3]
  · iexact MA3
  iintro MP3
  iapply (step_over c ysM (slotR l3) (w := partB m c l3)) $$ [YSA3]
  · iexact YSA3
  iintro YO3
  unfold runs; rw [wp_ret]; imodintro; iapply HQ
  isplitl [MP2]; · iexact MP2
  isplitl [YF2]; · iexact YF2
  isplitl [MP3]; · iexact MP3
  isplitl [YO3]; · iexact YO3
  iexact HO

/-- Chunk 3 goes along `y`; chunk 0 has come, and is summed. -/
theorem part8 (c : Dev nD) (v2 v6 v146 v206 v208 : BitVec 32) {Q : _ → sProp 𝕄} :
    iprop(ctx m K c ∗ yDst c l3 ∗ yTok c l3 ∗ yOut m c l3 ∗ yIn c l0 ∗ holds c outM (mineR c l0) (part m c l0) ∗ holdsAny c xsM (slotR l0) ∗ owing c (owesY c 1))
      ⊢ iprop((∀ v240, (yFly c l3 ∗ yGot m c l0 ∗ zero c 14 (by decide) ∗ holds c outM (mineR c l0) (red m c l0) ∗ holdsAny c xsM (slotR l0) ∗ owing c (owesX c 4)) -∗ Q ⟨k0_pay11 (part m c l0) (partB m (yp c) l0), v240⟩) -∗ runs c (k0_part8 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v2 v6 v146 v206 v208) Q) := by
  simp only [k0_part8_eq_skeleton]; unfold k0_part8_skel
  simp only [semSignalWord, semWaitWord, Prog.lift, Prog.bind_op, Prog.bind_ret, Prog.pure_eq_ret, wp_deviceId]
  iintro ⟨#HC, YD3, YT3, YO3, YI0, MP0, XSA0, HO⟩ HQ
  iapply (go_y m K c l3 (n := 0) rfl (dev6_eq c) rfl rfl) $$ [YD3 YT3 YO3 HO]
  · isplitr; · iexact HC
    isplitl [YD3]; · iexact YD3
    isplitl [YT3]; · iexact YT3
    isplitl [YO3]; · iexact YO3
    iexact HO
  iintro ⟨YF3, HO⟩
  -- all `y` copies are issued
  iapply (wait_y m K c l0 (O := owesX c 4) (above_owesX c 4 (by decide)) rfl) $$ [YI0 HO]
  · isplitr; · iexact HC
    isplitl [YI0]; · iexact YI0
    iexact HO
  iintro ⟨YG0, YW0, HO⟩
  iapply (step_load c outM (mineR c l0) (part m c l0)) $$ [MP0]
  · iexact MP0
  iintro MP0
  iapply (step_load c yrM (slotR l0) (partB m (yp c) l0)) $$ [YG0]
  · iexact YG0
  iintro YG0
  iapply (step_over c outM (mineR c l0) (w := red m c l0)) $$ [MP0]
  · iapply holds_any; iexact MP0
  iintro MR0
  iapply (step_load_any c xsM (slotR l0)) $$ XSA0
  iintro %junk XSA0
  unfold runs; rw [wp_ret]; imodintro; iapply HQ
  isplitl [YF3]; · iexact YF3
  isplitl [YG0]; · iexact YG0
  isplitl [YW0]; · iexact YW0
  isplitl [MR0]; · iexact MR0
  isplitl [XSA0]; · iexact XSA0
  iexact HO

/-- Sum 0 goes along `x`; chunk 1 has come. -/
theorem part9 (c : Dev nD) (v2 v5 v6 v166 : BitVec 32) (v240 : Vec F S1x64x512 .bf16) {Q : _ → sProp 𝕄} :
    iprop(ctx m K c ∗ holdsAny c xsM (slotR l0) ∗ xDst c l0 ∗ xTok c l0 ∗ yIn c l1 ∗ holds c outM (mineR c l1) (part m c l1) ∗ owing c (owesX c 4))
      ⊢ iprop((∀ v243 v256, (xFly c l0 ∗ yGot m c l1 ∗ zero c 15 (by decide) ∗ holds c outM (mineR c l1) (part m c l1) ∗ owing c (owesX c 3)) -∗ Q ⟨v243, v256, k0_pay13 (part m c l1)⟩) -∗ runs c (k0_part9 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v2 v5 v6 v166 (k0_pay11 (part m c l0) (partB m (yp c) l0)) v240) Q) := by
  simp only [k0_part9_eq_skeleton]; unfold k0_part9_skel
  simp only [semSignalWord, semWaitWord, Prog.lift, Prog.bind_op, Prog.bind_ret, Prog.pure_eq_ret, wp_deviceId]
  iintro ⟨#HC, XSA0, XD0, XT0, YI1, MP1, HO⟩ HQ
  iapply (step_store c xsM (slotR l0) (w := redB m c l0)) $$ [XSA0]
  · iexact XSA0
  iintro XO0
  iapply (go_x m K c l0 (n := 3) rfl (dev7_eq c) rfl rfl) $$ [XD0 XT0 XO0 HO]
  · isplitr; · iexact HC
    isplitl [XD0]; · iexact XD0
    isplitl [XT0]; · iexact XT0
    isplitl [XO0]; · iexact XO0
    iexact HO
  iintro ⟨XF0, HO⟩
  iapply (wait_y m K c l1 (O := owesX c 3) (above_owesX c 3 (by decide)) rfl) $$ [YI1 HO]
  · isplitr; · iexact HC
    isplitl [YI1]; · iexact YI1
    iexact HO
  iintro ⟨YG1, YW1, HO⟩
  iapply (step_load c outM (mineR c l1) (part m c l1)) $$ [MP1]
  · iexact MP1
  iintro MP1
  unfold runs; rw [wp_ret]; imodintro; iapply HQ
  isplitl [XF0]; · iexact XF0
  isplitl [YG1]; · iexact YG1
  isplitl [YW1]; · iexact YW1
  isplitl [MP1]; · iexact MP1
  iexact HO

/-- Chunk 1 is summed, and sum 1 goes along `x`. -/
theorem part10 (c : Dev nD) (v2 v5 v6 v186 v256 : BitVec 32) {Q : _ → sProp 𝕄} :
    iprop(ctx m K c ∗ yGot m c l1 ∗ holds c outM (mineR c l1) (part m c l1) ∗ holdsAny c xsM (slotR l1) ∗ xDst c l1 ∗ xTok c l1 ∗ owing c (owesX c 3))
      ⊢ iprop((∀ v280 v293, (yGot m c l1 ∗ holds c outM (mineR c l1) (red m c l1) ∗ xFly c l1 ∗ owing c (owesX c 2)) -∗ Q ⟨v280, v293⟩) -∗ runs c (k0_part10 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v2 v5 v6 v186 v256 (k0_pay13 (part m c l1))) Q) := by
  simp only [k0_part10_eq_skeleton]; unfold k0_part10_skel
  simp only [semSignalWord, semWaitWord, Prog.lift, Prog.bind_op, Prog.bind_ret, Prog.pure_eq_ret, wp_deviceId, pay14_eq, pay15_eq]
  iintro ⟨#HC, YG1, MP1, XSA1, XD1, XT1, HO⟩ HQ
  iapply (step_load c yrM (slotR l1) (partB m (yp c) l1)) $$ [YG1]
  · iexact YG1
  iintro YG1
  iapply (step_over c outM (mineR c l1) (w := red m c l1)) $$ [MP1]
  · iapply holds_any; iexact MP1
  iintro MR1
  iapply (step_over c xsM (slotR l1) (w := redB m c l1)) $$ [XSA1]
  · iexact XSA1
  iintro XO1
  iapply (go_x m K c l1 (n := 2) rfl (dev8_eq c) rfl rfl) $$ [XD1 XT1 XO1 HO]
  · isplitr; · iexact HC
    isplitl [XD1]; · iexact XD1
    isplitl [XT1]; · iexact XT1
    isplitl [XO1]; · iexact XO1
    iexact HO
  iintro ⟨XF1, HO⟩
  unfold runs; rw [wp_ret]; imodintro; iapply HQ
  isplitl [YG1]; · iexact YG1
  isplitl [MR1]; · iexact MR1
  isplitl [XF1]; · iexact XF1
  iexact HO

/-- Chunk 2 has come and is summed, and sum 2 goes along `x`. -/
theorem part11 (c : Dev nD) (v2 v5 v6 v293 : BitVec 32) {Q : _ → sProp 𝕄} :
    iprop(ctx m K c ∗ yIn c l2 ∗ holds c outM (mineR c l2) (part m c l2) ∗ holdsAny c xsM (slotR l2) ∗ xDst c l2 ∗ xTok c l2 ∗ owing c (owesX c 2))
      ⊢ iprop((∀ v317 v330, (yGot m c l2 ∗ zero c 16 (by decide) ∗ holds c outM (mineR c l2) (red m c l2) ∗ xFly c l2 ∗ owing c (owesX c 1)) -∗ Q ⟨v317, v330⟩) -∗ runs c (k0_part11 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v2 v5 v6 v293) Q) := by
  simp only [k0_part11_eq_skeleton]; unfold k0_part11_skel
  simp only [semSignalWord, semWaitWord, Prog.lift, Prog.bind_op, Prog.bind_ret, Prog.pure_eq_ret, wp_deviceId, pay16_eq, pay17_eq]
  iintro ⟨#HC, YI2, MP2, XSA2, XD2, XT2, HO⟩ HQ
  iapply (wait_y m K c l2 (O := owesX c 2) (above_owesX c 2 (by decide)) rfl) $$ [YI2 HO]
  · isplitr; · iexact HC
    isplitl [YI2]; · iexact YI2
    iexact HO
  iintro ⟨YG2, YW2, HO⟩
  iapply (step_load c outM (mineR c l2) (part m c l2)) $$ [MP2]
  · iexact MP2
  iintro MP2
  iapply (step_load c yrM (slotR l2) (partB m (yp c) l2)) $$ [YG2]
  · iexact YG2
  iintro YG2
  iapply (step_over c outM (mineR c l2) (w := red m c l2)) $$ [MP2]
  · iapply holds_any; iexact MP2
  iintro MR2
  iapply (step_over c xsM (slotR l2) (w := redB m c l2)) $$ [XSA2]
  · iexact XSA2
  iintro XO2
  iapply (go_x m K c l2 (n := 1) rfl (dev9_eq c) rfl rfl) $$ [XD2 XT2 XO2 HO]
  · isplitr; · iexact HC
    isplitl [XD2]; · iexact XD2
    isplitl [XT2]; · iexact XT2
    isplitl [XO2]; · iexact XO2
    iexact HO
  iintro ⟨XF2, HO⟩
  unfold runs; rw [wp_ret]; imodintro; iapply HQ
  isplitl [YG2]; · iexact YG2
  isplitl [YW2]; · iexact YW2
  isplitl [MR2]; · iexact MR2
  isplitl [XF2]; · iexact XF2
  iexact HO

/-- Chunk 3 has come and is summed. -/
theorem part12 (c : Dev nD) (v2 v5 v206 v330 : BitVec 32) {Q : _ → sProp 𝕄} :
    iprop(ctx m K c ∗ yIn c l3 ∗ holds c outM (mineR c l3) (part m c l3) ∗ holdsAny c xsM (slotR l3) ∗ owing c (owesX c 1))
      ⊢ iprop((∀ v354, (yGot m c l3 ∗ zero c 17 (by decide) ∗ holds c outM (mineR c l3) (red m c l3) ∗ xOut m c l3 ∗ owing c (owesX c 1)) -∗ Q v354) -∗ runs c (k0_part12 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v2 v5 v206 v330) Q) := by
  simp only [k0_part12_eq_skeleton]; unfold k0_part12_skel
  simp only [semSignalWord, semWaitWord, Prog.lift, Prog.bind_op, Prog.bind_ret, Prog.pure_eq_ret, wp_deviceId, pay18_eq, pay19_eq]
  iintro ⟨#HC, YI3, MP3, XSA3, HO⟩ HQ
  iapply (wait_y m K c l3 (O := owesX c 1) (above_owesX c 1 (by decide)) rfl) $$ [YI3 HO]
  · isplitr; · iexact HC
    isplitl [YI3]; · iexact YI3
    iexact HO
  iintro ⟨YG3, YW3, HO⟩
  iapply (step_load c outM (mineR c l3) (part m c l3)) $$ [MP3]
  · iexact MP3
  iintro MP3
  iapply (step_load c yrM (slotR l3) (partB m (yp c) l3)) $$ [YG3]
  · iexact YG3
  iintro YG3
  iapply (step_over c outM (mineR c l3) (w := red m c l3)) $$ [MP3]
  · iapply holds_any; iexact MP3
  iintro MR3
  iapply (step_over c xsM (slotR l3) (w := redB m c l3)) $$ [XSA3]
  · iexact XSA3
  iintro XO3
  unfold runs; rw [wp_ret]; imodintro; iapply HQ
  isplitl [YG3]; · iexact YG3
  isplitl [YW3]; · iexact YW3
  isplitl [MR3]; · iexact MR3
  isplitl [XO3]; · iexact XO3
  iexact HO

/-- Sum 3 goes along `x`; sum 0 of the other half has come, and is stored. -/
theorem part13 (c : Dev nD) (v5 v8 v243 v280 : BitVec 32) {Q : _ → sProp 𝕄} :
    iprop(ctx m K c ∗ xDst c l3 ∗ xTok c l3 ∗ xOut m c l3 ∗ xIn c l0 ∗ holdsAny c outM (otherR c l0) ∗ owing c (owesX c 1))
      ⊢ iprop((∀ v383, (xFly c l3 ∗ xGot m c l0 ∗ zero c 22 (by decide) ∗ holds c outM (otherR c l0) (far m c l0) ∗ owing c (0)) -∗ Q v383) -∗ runs c (k0_part13 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v5 v8 v243 v280) Q) := by
  simp only [k0_part13_eq_skeleton]; unfold k0_part13_skel
  simp only [semSignalWord, semWaitWord, Prog.lift, Prog.bind_op, Prog.bind_ret, Prog.pure_eq_ret, wp_deviceId]
  iintro ⟨#HC, XD3, XT3, XO3, XI0, OA0, HO⟩ HQ
  iapply (go_x m K c l3 (n := 0) rfl (dev10_eq c) rfl rfl) $$ [XD3 XT3 XO3 HO]
  · isplitr; · iexact HC
    isplitl [XD3]; · iexact XD3
    isplitl [XT3]; · iexact XT3
    isplitl [XO3]; · iexact XO3
    iexact HO
  iintro ⟨XF3, HO⟩
  iapply (wait_x m K c l0 (O := 0) (above_zero _) rfl) $$ [XI0 HO]
  · isplitr; · iexact HC
    isplitl [XI0]; · iexact XI0
    iexact HO
  iintro ⟨XG0, XW0, HO⟩
  iapply (step_load c xrM (slotR l0) (redB m (xp c) l0)) $$ [XG0]
  · iexact XG0
  iintro XG0
  iapply (step_over c outM (otherR c l0) (w := far m c l0)) $$ [OA0]
  · iexact OA0
  iintro OF0
  unfold runs; rw [wp_ret]; imodintro; iapply HQ
  isplitl [XF3]; · iexact XF3
  isplitl [XG0]; · iexact XG0
  isplitl [XW0]; · iexact XW0
  isplitl [OF0]; · iexact OF0
  iexact HO

/-- Sums 1 and 2 of the other half have come, and are stored. -/
theorem part14 (c : Dev nD) (v5 v8 v317 v354 v383 : BitVec 32) {Q : _ → sProp 𝕄} :
    iprop(ctx m K c ∗ xIn c l1 ∗ holdsAny c outM (otherR c l1) ∗ xIn c l2 ∗ holdsAny c outM (otherR c l2) ∗ owing c (0))
      ⊢ iprop((∀ v415 v417, (xGot m c l1 ∗ zero c 23 (by decide) ∗ holds c outM (otherR c l1) (far m c l1) ∗ xGot m c l2 ∗ zero c 24 (by decide) ∗ holds c outM (otherR c l2) (far m c l2) ∗ owing c (0)) -∗ Q ⟨v415, v417⟩) -∗ runs c (k0_part14 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v5 v8 v317 v354 v383) Q) := by
  simp only [k0_part14_eq_skeleton]; unfold k0_part14_skel
  simp only [semSignalWord, semWaitWord, Prog.lift, Prog.bind_op, Prog.bind_ret, Prog.pure_eq_ret, wp_deviceId, pay21_eq, pay22_eq]
  iintro ⟨#HC, XI1, OA1, XI2, OA2, HO⟩ HQ
  iapply (wait_x m K c l1 (O := 0) (above_zero _) rfl) $$ [XI1 HO]
  · isplitr; · iexact HC
    isplitl [XI1]; · iexact XI1
    iexact HO
  iintro ⟨XG1, XW1, HO⟩
  iapply (step_load c xrM (slotR l1) (redB m (xp c) l1)) $$ [XG1]
  · iexact XG1
  iintro XG1
  iapply (step_over c outM (otherR c l1) (w := far m c l1)) $$ [OA1]
  · iexact OA1
  iintro OF1
  iapply (wait_x m K c l2 (O := 0) (above_zero _) rfl) $$ [XI2 HO]
  · isplitr; · iexact HC
    isplitl [XI2]; · iexact XI2
    iexact HO
  iintro ⟨XG2, XW2, HO⟩
  iapply (step_load c xrM (slotR l2) (redB m (xp c) l2)) $$ [XG2]
  · iexact XG2
  iintro XG2
  iapply (step_over c outM (otherR c l2) (w := far m c l2)) $$ [OA2]
  · iexact OA2
  iintro OF2
  unfold runs; rw [wp_ret]; imodintro; iapply HQ
  isplitl [XG1]; · iexact XG1
  isplitl [XW1]; · iexact XW1
  isplitl [OF1]; · iexact OF1
  isplitl [XG2]; · iexact XG2
  isplitl [XW2]; · iexact XW2
  isplitl [OF2]; · iexact OF2
  iexact HO

/-- Sum 3 of the other half has come, and is stored; the sends of chunk 0 have left. -/
theorem part15 (c : Dev nD) (v5 v415 v417 : BitVec 32) {Q : _ → sProp 𝕄} :
    iprop(ctx m K c ∗ xIn c l3 ∗ holdsAny c outM (otherR c l3) ∗ yFly c l0 ∗ pos c 10 (by decide) ∗ xFly c l0 ∗ pos c 18 (by decide) ∗ owing c (0))
      ⊢ iprop(((xGot m c l3 ∗ zero c 25 (by decide) ∗ holds c outM (otherR c l3) (far m c l3) ∗ yOut m c l0 ∗ zero c 10 (by decide) ∗ xOut m c l0 ∗ zero c 18 (by decide) ∗ owing c (0)) -∗ Q ⟨⟩) -∗ runs c (k0_part15 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 c v5 v415 v417) Q) := by
  simp only [k0_part15_eq_skeleton]; unfold k0_part15_skel
  simp only [semSignalWord, semWaitWord, Prog.lift, Prog.bind_op, Prog.bind_ret, Prog.pure_eq_ret, wp_deviceId, pay23_eq]
  iintro ⟨#HC, XI3, OA3, YF0, YP0, XF0, XP0, HO⟩ HQ
  iapply (wait_x m K c l3 (O := 0) (above_zero _) rfl) $$ [XI3 HO]
  · isplitr; · iexact HC
    isplitl [XI3]; · iexact XI3
    iexact HO
  iintro ⟨XG3, XW3, HO⟩
  iapply (step_load c xrM (slotR l3) (redB m (xp c) l3)) $$ [XG3]
  · iexact XG3
  iintro XG3
  iapply (step_over c outM (otherR c l3) (w := far m c l3)) $$ [OA3]
  · iexact OA3
  iintro OF3
  iapply (sent_y m K c l0 rfl) $$ [YF0 YP0 HO]
  · isplitr; · iexact HC
    isplitl [YF0]; · iexact YF0
    isplitl [YP0]; · iexact YP0
    iexact HO
  iintro ⟨YO0, YZ0, HO⟩
  iapply (sent_x m K c l0 rfl) $$ [XF0 XP0 HO]
  · isplitr; · iexact HC
    isplitl [XF0]; · iexact XF0
    isplitl [XP0]; · iexact XP0
    iexact HO
  iintro ⟨XO0, XZ0, HO⟩
  unfold runs; rw [wp_ret]; imodintro; iapply HQ
  isplitl [XG3]; · iexact XG3
  isplitl [XW3]; · iexact XW3
  isplitl [OF3]; · iexact OF3
  isplitl [YO0]; · iexact YO0
  isplitl [YZ0]; · iexact YZ0
  isplitl [XO0]; · iexact XO0
  isplitl [XZ0]; · iexact XZ0
  iexact HO

/-- The sends of chunks 1 and 2 have left. -/
theorem part16 (c : Dev nD)  {Q : _ → sProp 𝕄} :
    iprop(ctx m K c ∗ yFly c l1 ∗ pos c 11 (by decide) ∗ xFly c l1 ∗ pos c 19 (by decide) ∗ yFly c l2 ∗ pos c 12 (by decide) ∗ xFly c l2 ∗ pos c 20 (by decide) ∗ owing c (0))
      ⊢ iprop(((yOut m c l1 ∗ zero c 11 (by decide) ∗ xOut m c l1 ∗ zero c 19 (by decide) ∗ yOut m c l2 ∗ zero c 12 (by decide) ∗ xOut m c l2 ∗ zero c 20 (by decide) ∗ owing c (0)) -∗ Q ⟨⟩) -∗ runs c (k0_part16 (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 ) Q) := by
  simp only [k0_part16_eq_skeleton]; unfold k0_part16_skel
  simp only [semSignalWord, semWaitWord, Prog.lift, Prog.bind_op, Prog.bind_ret, Prog.pure_eq_ret, wp_deviceId]
  iintro ⟨#HC, YF1, YP1, XF1, XP1, YF2, YP2, XF2, XP2, HO⟩ HQ
  iapply (sent_y m K c l1 rfl) $$ [YF1 YP1 HO]
  · isplitr; · iexact HC
    isplitl [YF1]; · iexact YF1
    isplitl [YP1]; · iexact YP1
    iexact HO
  iintro ⟨YO1, YZ1, HO⟩
  iapply (sent_x m K c l1 rfl) $$ [XF1 XP1 HO]
  · isplitr; · iexact HC
    isplitl [XF1]; · iexact XF1
    isplitl [XP1]; · iexact XP1
    iexact HO
  iintro ⟨XO1, XZ1, HO⟩
  iapply (sent_y m K c l2 rfl) $$ [YF2 YP2 HO]
  · isplitr; · iexact HC
    isplitl [YF2]; · iexact YF2
    isplitl [YP2]; · iexact YP2
    iexact HO
  iintro ⟨YO2, YZ2, HO⟩
  iapply (sent_x m K c l2 rfl) $$ [XF2 XP2 HO]
  · isplitr; · iexact HC
    isplitl [XF2]; · iexact XF2
    isplitl [XP2]; · iexact XP2
    iexact HO
  iintro ⟨XO2, XZ2, HO⟩
  unfold runs; rw [wp_ret]; imodintro; iapply HQ
  isplitl [YO1]; · iexact YO1
  isplitl [YZ1]; · iexact YZ1
  isplitl [XO1]; · iexact XO1
  isplitl [XZ1]; · iexact XZ1
  isplitl [YO2]; · iexact YO2
  isplitl [YZ2]; · iexact YZ2
  isplitl [XO2]; · iexact XO2
  isplitl [XZ2]; · iexact XZ2
  iexact HO

end Cert.EmbedProof

end
-- ==== Proof.Body.lean ====
/-
# The body of the embedding lookup, whole

The parts in sequence, at a symbolic device.
-/
module

public import proofs.«01_k».proof.Proof.PartsA
public import proofs.«01_k».proof.Proof.PartsB

@[expose] public section

noncomputable section

namespace Cert.EmbedProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : GSem nD τ sig → ℕ)

/-- What the body takes: the table's eight tiles with their copies' rights, the ids, the slots it lends and sends from, the
    windows of the result, the rights to pay its neighbours, and the units it is owed. -/
def bodyIn (c : Dev nD) : sProp 𝕄 :=
  iprop(tabGo m c t0
      ∗ tabGo m c t1
      ∗ tabGo m c t2
      ∗ tabGo m c t3
      ∗ tabGo m c t4
      ∗ tabGo m c t5
      ∗ tabGo m c t6
      ∗ tabGo m c t7
      ∗ tabPos c t0
      ∗ tabPos c t1
      ∗ tabPos c t2
      ∗ tabPos c t3
      ∗ tabPos c t4
      ∗ tabPos c t5
      ∗ tabPos c t6
      ∗ tabPos c t7
      ∗ idsPts m c
      ∗ slotsAny c yrM
      ∗ slotsAny c xrM
      ∗ dutyTok ER (barCell (yp c)) 0 false
      ∗ dutyTok ER (barCell (xp c)) 0 true
      ∗ cred (tallyAt (barCell c) () 2)
      ∗ atPos ER (barCell c) 0 ∅ 0
      ∗ holdsAny c outM (mineR c l0)
      ∗ holdsAny c outM (mineR c l1)
      ∗ holdsAny c outM (mineR c l2)
      ∗ holdsAny c outM (mineR c l3)
      ∗ holdsAny c outM (otherR c l0)
      ∗ holdsAny c outM (otherR c l1)
      ∗ holdsAny c outM (otherR c l2)
      ∗ holdsAny c outM (otherR c l3)
      ∗ holdsAny c ysM (slotR l0)
      ∗ holdsAny c ysM (slotR l1)
      ∗ holdsAny c ysM (slotR l2)
      ∗ holdsAny c ysM (slotR l3)
      ∗ holdsAny c xsM (slotR l0)
      ∗ holdsAny c xsM (slotR l1)
      ∗ holdsAny c xsM (slotR l2)
      ∗ holdsAny c xsM (slotR l3)
      ∗ yTok c l0
      ∗ yTok c l1
      ∗ yTok c l2
      ∗ yTok c l3
      ∗ xTok c l0
      ∗ xTok c l1
      ∗ xTok c l2
      ∗ xTok c l3
      ∗ yIn c l0
      ∗ yIn c l1
      ∗ yIn c l2
      ∗ yIn c l3
      ∗ xIn c l0
      ∗ xIn c l1
      ∗ xIn c l2
      ∗ xIn c l3
      ∗ pos c 10 (by decide)
      ∗ pos c 11 (by decide)
      ∗ pos c 12 (by decide)
      ∗ pos c 13 (by decide)
      ∗ pos c 18 (by decide)
      ∗ pos c 19 (by decide)
      ∗ pos c 20 (by decide)
      ∗ pos c 21 (by decide))

/-- What it leaves: the table and the ids as they were, the result's windows filled, the slots, and every counter at zero. -/
def bodyOut (c : Dev nD) : sProp 𝕄 :=
  iprop(tabBack m c t0
      ∗ tabBack m c t1
      ∗ tabBack m c t2
      ∗ tabBack m c t3
      ∗ tabBack m c t4
      ∗ tabBack m c t5
      ∗ tabBack m c t6
      ∗ tabBack m c t7
      ∗ eAll m c
      ∗ idsPts m c
      ∗ semVal (barCell c) 0
      ∗ holds c outM (mineR c l0) (red m c l0)
      ∗ holds c outM (mineR c l1) (red m c l1)
      ∗ holds c outM (mineR c l2) (red m c l2)
      ∗ holds c outM (mineR c l3) (red m c l3)
      ∗ holds c outM (otherR c l0) (far m c l0)
      ∗ holds c outM (otherR c l1) (far m c l1)
      ∗ holds c outM (otherR c l2) (far m c l2)
      ∗ holds c outM (otherR c l3) (far m c l3)
      ∗ yOut m c l0
      ∗ yOut m c l1
      ∗ yOut m c l2
      ∗ yOut m c l3
      ∗ yGot m c l0
      ∗ yGot m c l1
      ∗ yGot m c l2
      ∗ yGot m c l3
      ∗ xOut m c l0
      ∗ xOut m c l1
      ∗ xOut m c l2
      ∗ xOut m c l3
      ∗ xGot m c l0
      ∗ xGot m c l1
      ∗ xGot m c l2
      ∗ xGot m c l3
      ∗ zero c 10 (by decide)
      ∗ zero c 11 (by decide)
      ∗ zero c 12 (by decide)
      ∗ zero c 13 (by decide)
      ∗ zero c 14 (by decide)
      ∗ zero c 15 (by decide)
      ∗ zero c 16 (by decide)
      ∗ zero c 17 (by decide)
      ∗ zero c 18 (by decide)
      ∗ zero c 19 (by decide)
      ∗ zero c 20 (by decide)
      ∗ zero c 21 (by decide)
      ∗ zero c 22 (by decide)
      ∗ zero c 23 (by decide)
      ∗ zero c 24 (by decide)
      ∗ zero c 25 (by decide))

/-- Two programs in sequence: the first, then the second on its result. -/
theorem runs_bind {c : Dev nD} {α β : Type} {p : Prog (TpuEff nD τ sig (Elt F) Λ₀ .tc) α} {k : α → Prog (TpuEff nD τ sig (Elt F) Λ₀ .tc) β} {Q : β → sProp 𝕄} :
    runs c p (fun a => runs c (k a) Q) ⊢ runs c (p >>= k) Q := by
  unfold runs; rw [wp_bind]

set_option maxHeartbeats 1600000 in
/-- The body runs from what it takes to what it leaves, and then owes nothing. -/
theorem body_run (c : Dev nD) {Q : PUnit → sProp 𝕄} :
    iprop(ctx m K c ∗ bodyIn m c ∗ owing c (O₀ c))
      ⊢ iprop((bodyOut m c ∗ owing c 0 -∗ Q ⟨⟩) -∗ runs c (cc0_body (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9) Q) := by
  simp only [cc0_body_eq_skeleton]; unfold cc0_body_skel bodyIn bodyOut
  iintro ⟨#HC, ⟨tT0, tT1, tT2, tT3, tT4, tT5, tT6, tT7, tP0, tP1, tP2, tP3, tP4, tP5, tP6, tP7, IDS, SAY, SAX, BTY, BTX, BC, BP, MA0, MA1, MA2, MA3, OA0, OA1, OA2, OA3, YSA0, YSA1, YSA2, YSA3, XSA0, XSA1, XSA2, XSA3, YT0, YT1, YT2, YT3, XT0, XT1, XT2, XT3, YI0, YI1, YI2, YI3, XI0, XI1, XI2, XI3, YP0, YP1, YP2, YP3, XP0, XP1, XP2, XP3⟩, HO⟩ HQ
  iapply runs_bind
  iapply (part1 m K c) $$ [tT0 tT1 tT2 tT3]
  · isplitr; · iexact HC
    isplitl [tT0]; · iexact tT0
    isplitl [tT1]; · iexact tT1
    isplitl [tT2]; · iexact tT2
    iexact tT3
  iintro %w6_1 %w8_1 ⟨tF0, tF1, tF2, tF3⟩
  dsimp only
  iapply runs_bind
  iapply (part2 m K c _ _) $$ [tT4 tT5 tT6 tT7 SAY SAX BTY BTX HO]
  · isplitr; · iexact HC
    isplitl [tT4]; · iexact tT4
    isplitl [tT5]; · iexact tT5
    isplitl [tT6]; · iexact tT6
    isplitl [tT7]; · iexact tT7
    isplitl [SAY]; · iexact SAY
    isplitl [SAX]; · iexact SAX
    isplitl [BTY]; · iexact BTY
    isplitl [BTX]; · iexact BTX
    iexact HO
  iintro ⟨tF4, tF5, tF6, tF7, HO⟩
  iapply runs_bind
  iapply (part3 m K c) $$ [tF0 tP0 tF1 tP1 tF2 tP2 tF3 tP3 tF4 tP4 tF5 tP5 HO]
  · isplitr; · iexact HC
    isplitl [tF0]; · iexact tF0
    isplitl [tP0]; · iexact tP0
    isplitl [tF1]; · iexact tF1
    isplitl [tP1]; · iexact tP1
    isplitl [tF2]; · iexact tF2
    isplitl [tP2]; · iexact tP2
    isplitl [tF3]; · iexact tF3
    isplitl [tP3]; · iexact tP3
    isplitl [tF4]; · iexact tF4
    isplitl [tP4]; · iexact tP4
    isplitl [tF5]; · iexact tF5
    isplitl [tP5]; · iexact tP5
    iexact HO
  iintro ⟨tE0, tB0, tE1, tB1, tE2, tB2, tE3, tB3, tE4, tB4, tE5, tB5, HO⟩
  iapply runs_bind
  iapply (part4 m K c _) $$ [tE0 tE1 tE2 tE3 tE4 tE5 tF6 tP6 tF7 tP7 IDS HO]
  · isplitr; · iexact HC
    isplitl [tE0]; · iexact tE0
    isplitl [tE1]; · iexact tE1
    isplitl [tE2]; · iexact tE2
    isplitl [tE3]; · iexact tE3
    isplitl [tE4]; · iexact tE4
    isplitl [tE5]; · iexact tE5
    isplitl [tF6]; · iexact tF6
    isplitl [tP6]; · iexact tP6
    isplitl [tF7]; · iexact tF7
    isplitl [tP7]; · iexact tP7
    isplitl [IDS]; · iexact IDS
    iexact HO
  iintro ⟨tB6, tB7, EA, IDS, HO⟩
  dsimp only
  iapply runs_bind
  iapply (part5 m K c _ _) $$ [IDS BC BP MA0 YSA0 HO]
  · isplitr; · iexact HC
    isplitl [IDS]; · iexact IDS
    isplitl [BC]; · iexact BC
    isplitl [BP]; · iexact BP
    isplitl [MA0]; · iexact MA0
    isplitl [YSA0]; · iexact YSA0
    iexact HO
  iintro %w146_5 %w148_5 ⟨IDS, BZ, YD0, YD1, YD2, YD3, XD0, XD1, XD2, XD3, MP0, YO0, HO⟩
  dsimp only
  iapply runs_bind
  iapply (part6 m K c _ _ _ _ _) $$ [YD0 YT0 YO0 MA1 YSA1 YD1 YT1 HO]
  · isplitr; · iexact HC
    isplitl [YD0]; · iexact YD0
    isplitl [YT0]; · iexact YT0
    isplitl [YO0]; · iexact YO0
    isplitl [MA1]; · iexact MA1
    isplitl [YSA1]; · iexact YSA1
    isplitl [YD1]; · iexact YD1
    isplitl [YT1]; · iexact YT1
    iexact HO
  iintro %w166_6 ⟨YF0, MP1, YF1, HO⟩
  iapply runs_bind
  iapply (part7 m K c _ _ _) $$ [MA2 YSA2 YD2 YT2 MA3 YSA3 HO]
  · isplitr; · iexact HC
    isplitl [MA2]; · iexact MA2
    isplitl [YSA2]; · iexact YSA2
    isplitl [YD2]; · iexact YD2
    isplitl [YT2]; · iexact YT2
    isplitl [MA3]; · iexact MA3
    isplitl [YSA3]; · iexact YSA3
    iexact HO
  iintro %w186_7 %w206_7 %w208_7 ⟨MP2, YF2, MP3, YO3, HO⟩
  dsimp only
  iapply runs_bind
  iapply (part8 m K c _ _ _ _ _) $$ [YD3 YT3 YO3 YI0 MP0 XSA0 HO]
  · isplitr; · iexact HC
    isplitl [YD3]; · iexact YD3
    isplitl [YT3]; · iexact YT3
    isplitl [YO3]; · iexact YO3
    isplitl [YI0]; · iexact YI0
    isplitl [MP0]; · iexact MP0
    isplitl [XSA0]; · iexact XSA0
    iexact HO
  iintro %w240_8 ⟨YF3, YG0, YW0, MR0, XSA0, HO⟩
  dsimp only
  iapply runs_bind
  iapply (part9 m K c _ _ _ _ _) $$ [XSA0 XD0 XT0 YI1 MP1 HO]
  · isplitr; · iexact HC
    isplitl [XSA0]; · iexact XSA0
    isplitl [XD0]; · iexact XD0
    isplitl [XT0]; · iexact XT0
    isplitl [YI1]; · iexact YI1
    isplitl [MP1]; · iexact MP1
    iexact HO
  iintro %w243_9 %w256_9 ⟨XF0, YG1, YW1, MP1, HO⟩
  dsimp only
  iapply runs_bind
  iapply (part10 m K c _ _ _ _ _) $$ [YG1 MP1 XSA1 XD1 XT1 HO]
  · isplitr; · iexact HC
    isplitl [YG1]; · iexact YG1
    isplitl [MP1]; · iexact MP1
    isplitl [XSA1]; · iexact XSA1
    isplitl [XD1]; · iexact XD1
    isplitl [XT1]; · iexact XT1
    iexact HO
  iintro %w280_10 %w293_10 ⟨YG1, MR1, XF1, HO⟩
  dsimp only
  iapply runs_bind
  iapply (part11 m K c _ _ _ _) $$ [YI2 MP2 XSA2 XD2 XT2 HO]
  · isplitr; · iexact HC
    isplitl [YI2]; · iexact YI2
    isplitl [MP2]; · iexact MP2
    isplitl [XSA2]; · iexact XSA2
    isplitl [XD2]; · iexact XD2
    isplitl [XT2]; · iexact XT2
    iexact HO
  iintro %w317_11 %w330_11 ⟨YG2, YW2, MR2, XF2, HO⟩
  dsimp only
  iapply runs_bind
  iapply (part12 m K c _ _ _ _) $$ [YI3 MP3 XSA3 HO]
  · isplitr; · iexact HC
    isplitl [YI3]; · iexact YI3
    isplitl [MP3]; · iexact MP3
    isplitl [XSA3]; · iexact XSA3
    iexact HO
  iintro %w354_12 ⟨YG3, YW3, MR3, XO3, HO⟩
  iapply runs_bind
  iapply (part13 m K c _ _ _ _) $$ [XD3 XT3 XO3 XI0 OA0 HO]
  · isplitr; · iexact HC
    isplitl [XD3]; · iexact XD3
    isplitl [XT3]; · iexact XT3
    isplitl [XO3]; · iexact XO3
    isplitl [XI0]; · iexact XI0
    isplitl [OA0]; · iexact OA0
    iexact HO
  iintro %w383_13 ⟨XF3, XG0, XW0, OF0, HO⟩
  iapply runs_bind
  iapply (part14 m K c _ _ _ _ _) $$ [XI1 OA1 XI2 OA2 HO]
  · isplitr; · iexact HC
    isplitl [XI1]; · iexact XI1
    isplitl [OA1]; · iexact OA1
    isplitl [XI2]; · iexact XI2
    isplitl [OA2]; · iexact OA2
    iexact HO
  iintro %w415_14 %w417_14 ⟨XG1, XW1, OF1, XG2, XW2, OF2, HO⟩
  dsimp only
  iapply runs_bind
  iapply (part15 m K c _ _ _) $$ [XI3 OA3 YF0 YP0 XF0 XP0 HO]
  · isplitr; · iexact HC
    isplitl [XI3]; · iexact XI3
    isplitl [OA3]; · iexact OA3
    isplitl [YF0]; · iexact YF0
    isplitl [YP0]; · iexact YP0
    isplitl [XF0]; · iexact XF0
    isplitl [XP0]; · iexact XP0
    iexact HO
  iintro ⟨XG3, XW3, OF3, YO0, YZ0, XO0, XZ0, HO⟩
  iapply runs_bind
  iapply (part16 m K c) $$ [YF1 YP1 XF1 XP1 YF2 YP2 XF2 XP2 HO]
  · isplitr; · iexact HC
    isplitl [YF1]; · iexact YF1
    isplitl [YP1]; · iexact YP1
    isplitl [XF1]; · iexact XF1
    isplitl [XP1]; · iexact XP1
    isplitl [YF2]; · iexact YF2
    isplitl [YP2]; · iexact YP2
    isplitl [XF2]; · iexact XF2
    isplitl [XP2]; · iexact XP2
    iexact HO
  iintro ⟨YO1, YZ1, XO1, XZ1, YO2, YZ2, XO2, XZ2, HO⟩
  simp only [Prog.lift, Prog.bind_op, Prog.bind_ret, Prog.pure_eq_ret]
  iapply (sent_y m K c l3 rfl) $$ [YF3 YP3 HO]
  · isplitr; · iexact HC
    isplitl [YF3]; · iexact YF3
    isplitl [YP3]; · iexact YP3
    iexact HO
  iintro ⟨YO3, YZ3, HO⟩
  iapply (sent_x m K c l3 rfl) $$ [XF3 XP3 HO]
  · isplitr; · iexact HC
    isplitl [XF3]; · iexact XF3
    isplitl [XP3]; · iexact XP3
    iexact HO
  iintro ⟨XO3, XZ3, HO⟩
  unfold runs; rw [wp_ret]; imodintro; iapply HQ
  isplitr [HO]
  · isplitl [tB0]; · iexact tB0
    isplitl [tB1]; · iexact tB1
    isplitl [tB2]; · iexact tB2
    isplitl [tB3]; · iexact tB3
    isplitl [tB4]; · iexact tB4
    isplitl [tB5]; · iexact tB5
    isplitl [tB6]; · iexact tB6
    isplitl [tB7]; · iexact tB7
    isplitl [EA]; · iexact EA
    isplitl [IDS]; · iexact IDS
    isplitl [BZ]; · iexact BZ
    isplitl [MR0]; · iexact MR0
    isplitl [MR1]; · iexact MR1
    isplitl [MR2]; · iexact MR2
    isplitl [MR3]; · iexact MR3
    isplitl [OF0]; · iexact OF0
    isplitl [OF1]; · iexact OF1
    isplitl [OF2]; · iexact OF2
    isplitl [OF3]; · iexact OF3
    isplitl [YO0]; · iexact YO0
    isplitl [YO1]; · iexact YO1
    isplitl [YO2]; · iexact YO2
    isplitl [YO3]; · iexact YO3
    isplitl [YG0]; · iexact YG0
    isplitl [YG1]; · iexact YG1
    isplitl [YG2]; · iexact YG2
    isplitl [YG3]; · iexact YG3
    isplitl [XO0]; · iexact XO0
    isplitl [XO1]; · iexact XO1
    isplitl [XO2]; · iexact XO2
    isplitl [XO3]; · iexact XO3
    isplitl [XG0]; · iexact XG0
    isplitl [XG1]; · iexact XG1
    isplitl [XG2]; · iexact XG2
    isplitl [XG3]; · iexact XG3
    isplitl [YZ0]; · iexact YZ0
    isplitl [YZ1]; · iexact YZ1
    isplitl [YZ2]; · iexact YZ2
    isplitl [YZ3]; · iexact YZ3
    isplitl [YW0]; · iexact YW0
    isplitl [YW1]; · iexact YW1
    isplitl [YW2]; · iexact YW2
    isplitl [YW3]; · iexact YW3
    isplitl [XZ0]; · iexact XZ0
    isplitl [XZ1]; · iexact XZ1
    isplitl [XZ2]; · iexact XZ2
    isplitl [XZ3]; · iexact XZ3
    isplitl [XW0]; · iexact XW0
    isplitl [XW1]; · iexact XW1
    isplitl [XW2]; · iexact XW2
    iexact XW3
  iexact HO

end Cert.EmbedProof

end
-- ==== Proof.Windows.lean ====
module

public import proofs.«01_k».proof.Proof.Tiles

@[expose] public section

noncomputable section

namespace Cert.EmbedProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : GSem nD τ sig → ℕ)

/-! ## Buffers cut into windows -/

/-- The elements of a memref's buffer that a rectangle of it names. -/
abbrev wset {s : Shape} {e : EltTy} (b : Memref sig .tc .vmem s e) (R : Rect s) : Finset b.view.ty.Idx := (b.access R).set

/-- A window owned with some contents is a window held with any. -/
theorem pts_any (c : Dev nD) {s : Shape} {e : EltTy} (b : Memref sig .tc .vmem s e) (R : Rect s) (f : Buf (Elt F) (b.view.loc (c : Thread nD τ))) :
    (b.view.loc (c : Thread nD τ) ↦[wset b R]{fullShare} f : sProp 𝕄) ⊢ holdsAny c b R := by
  unfold holdsAny
  iintro H; iexists f; iexact H
/-- A window that reads as `g` does there holds `g` there. -/
theorem holds_pts (c : Dev nD) {s : Shape} {e : EltTy} (b : Memref sig .tc .vmem s e) (R : Rect s) (v : R.shape.Idx → Elt F e)
    (g : Buf (Elt F) (b.view.loc (c : Thread nD τ))) (hg : (b.access R).read (Elt F) g = v) :
    holds c b R v ⊢ (b.view.loc (c : Thread nD τ) ↦[wset b R]{fullShare} g : sProp 𝕄) := by
  unfold holds
  iintro ⟨%f, %hf, H⟩
  iapply (Entails.of_eq (pointsTo_congr (f := f) (g := g) fun i hi => by
    obtain ⟨x, -, rfl⟩ := Finset.mem_map.mp hi
    have h := congrFun (hf.trans hg.symm) x
    rw [View.read_apply, View.read_apply] at h
    exact eq_of_heq ((cast_heq _ _).symm.trans ((heq_of_eq h).trans (cast_heq _ _))))) $$ H

section Cut
variable (c : Dev nD) {s : Shape} {e : EltTy} (b : Memref sig .tc .vmem s e) {J : Type} [Fintype J] [DecidableEq J] (R : J → Rect s)
  (hd : ∀ k ∈ (Finset.univ : Finset J), ∀ k' ∈ (Finset.univ : Finset J), k ≠ k' → Disjoint (wset b (R k)) (wset b (R k')))
  (hc : (Finset.univ : Finset J).biUnion (fun k => wset b (R k)) = Finset.univ)
include hd hc

/-- A whole buffer is its windows, at the same contents. -/
theorem cut_pts (f : Buf (Elt F) (b.view.loc (c : Thread nD τ))) :
    (b.view.loc (c : Thread nD τ) ↦{fullShare} f : sProp 𝕄)
      = bigSep Finset.univ fun k => (b.view.loc (c : Thread nD τ) ↦[wset b (R k)]{fullShare} f) := by
  have h := pointsTo_biUnion (Ix := Unit) (Name := ℕ) (U := UU) (Lvl := ℕ) (ℓ := b.view.loc (c : Thread nD τ)) (q := fullShare) (f := f)
    (Finset.univ : Finset J) (fun k => wset b (R k)) hd
  rw [hc] at h
  exact h
/-- A whole buffer gives its windows. -/
theorem cut_any : (iprop(∃ f : Buf (Elt F) (b.view.loc (c : Thread nD τ)), b.view.loc (c : Thread nD τ) ↦{fullShare} f) : sProp 𝕄)
    ⊢ bigSep Finset.univ fun k => holdsAny c b (R k) := by
  iintro ⟨%f, H⟩
  ihave H := (Entails.of_eq (cut_pts c b R hd hc f)) $$ H
  have h : (bigSep Finset.univ fun k => (b.view.loc (c : Thread nD τ) ↦[wset b (R k)]{fullShare} f) : sProp 𝕄)
      ⊢ bigSep Finset.univ fun k => holdsAny c b (R k) := bigSep_mono fun k _ => pts_any c b (R k) f
  iapply h $$ H
/-- Windows at the contents of one function are the whole buffer at that function. -/
theorem join_holds (v : (k : J) → (R k).shape.Idx → Elt F e) (g : Buf (Elt F) (b.view.loc (c : Thread nD τ)))
    (hg : ∀ k, (b.access (R k)).read (Elt F) g = v k) :
    (bigSep Finset.univ fun k => holds c b (R k) (v k) : sProp 𝕄) ⊢ (b.view.loc (c : Thread nD τ) ↦{fullShare} g) := by
  rw [cut_pts c b R hd hc g]
  exact bigSep_mono fun k _ => holds_pts c b (R k) (v k) g (hg k)
end Cut

/-! ## The four slots of an exchange buffer -/

/-- An element is in slot `k` exactly when its first coordinate is `k`. -/
theorem slot_mem {k : ℕ} (hk : k < 4) (i : S4x64x512.Idx) : i ∈ (slotR hk).set ↔ (i 0).val = k := by
  rw [Rect.mem_set_unit]
  have h1 : (i 1).val < 64 := (i 1).isLt
  have h2 : (i 2).val < 512 := (i 2).isLt
  constructor
  · intro h
    have h0 := h 0
    have e0 : (![k, 0, 0] : Fin 3 → ℕ) 0 = k := rfl
    have e1 : S1x64x512.size 0 = 1 := rfl
    rw [e0, e1] at h0
    omega
  · intro h a
    match a with
    | ⟨0, _⟩ => show k ≤ (i 0).val ∧ (i 0).val < k + 1; omega
    | ⟨1, _⟩ => show 0 ≤ (i 1).val ∧ (i 1).val < 0 + 64; omega
    | ⟨2, _⟩ => show 0 ≤ (i 2).val ∧ (i 2).val < 0 + 512; omega
/-- Different slots do not meet. -/
theorem slots_disjoint : ∀ k ∈ (Finset.univ : Finset (Fin 4)), ∀ k' ∈ (Finset.univ : Finset (Fin 4)), k ≠ k' →
    Disjoint (slotR k.isLt).set (slotR k'.isLt).set := by
  intro k _ k' _ h
  refine Finset.disjoint_left.mpr fun i hi hi' => h (Fin.ext ?_)
  rw [← (slot_mem k.isLt i).mp hi, ← (slot_mem k'.isLt i).mp hi']
/-- The four slots cover the buffer. -/
theorem slots_cover : (Finset.univ : Finset (Fin 4)).biUnion (fun k => (slotR k.isLt).set) = (Finset.univ : Finset S4x64x512.Idx) := by
  refine Finset.eq_univ_iff_forall.mpr fun i => Finset.mem_biUnion.mpr ?_
  exact ⟨⟨(i 0).val, (i 0).isLt⟩, Finset.mem_univ _, (slot_mem _ i).mpr rfl⟩

/-- A conjunction over four, written out. -/
theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide]
  repeat rw [bigSep_insert (by decide)]
  rw [bigSep_singleton]
  rfl

section Slots
variable (c : Dev nD) (b : Memref sig .tc .vmem S4x64x512 .bf16) (hb : ∀ R : Rect S4x64x512, wset b R = R.set.map b.view.emb)
  (hw : b.view.set = Finset.univ)
include hb

/-- Different slots do not meet, as sets of the buffer's elements. -/
theorem slots_disjoint' : ∀ k ∈ (Finset.univ : Finset (Fin 4)), ∀ k' ∈ (Finset.univ : Finset (Fin 4)), k ≠ k' →
    Disjoint (wset b (slotR k.isLt)) (wset b (slotR k'.isLt)) := by
  intro k hk k' hk' h
  rw [hb, hb]
  exact (Finset.disjoint_map _).mpr (slots_disjoint k hk k' hk' h)
include hw
/-- The four slots cover, as sets of the buffer's elements. -/
theorem slots_cover' : (Finset.univ : Finset (Fin 4)).biUnion (fun k => wset b (slotR k.isLt)) = Finset.univ := by
  refine Finset.eq_univ_iff_forall.mpr fun i => Finset.mem_biUnion.mpr ?_
  have hi : i ∈ b.view.set := by rw [hw]; exact Finset.mem_univ i
  obtain ⟨x, -, rfl⟩ := Finset.mem_map.mp hi
  refine ⟨⟨(x 0).val, (x 0).isLt⟩, Finset.mem_univ _, ?_⟩
  rw [hb]
  exact Finset.mem_map_of_mem _ ((slot_mem _ x).mpr rfl)

/-- A four-slot buffer gives its slots. -/
theorem cut_slots : (iprop(∃ f : Buf (Elt F) (b.view.loc (c : Thread nD τ)), b.view.loc (c : Thread nD τ) ↦{fullShare} f) : sProp 𝕄)
    ⊢ slotsAny c b :=
  (cut_any c b (fun k : Fin 4 => slotR k.isLt) (slots_disjoint' b hb) (slots_cover' b hb hw)).trans (Entails.of_eq (bigSep_four _))
/-- Its slots give it back. -/
theorem join_slots : slotsAny c b
    ⊢ (iprop(∃ f : Buf (Elt F) (b.view.loc (c : Thread nD τ)), b.view.loc (c : Thread nD τ) ↦{fullShare} f) : sProp 𝕄) := by
  unfold slotsAny holdsAny
  iintro ⟨⟨%f0, H0⟩, ⟨%f1, H1⟩, ⟨%f2, H2⟩, ⟨%f3, H3⟩⟩
  have h := pointsTo_biUnion_join (Ix := Unit) (Name := ℕ) (U := UU) (Lvl := ℕ) (ℓ := b.view.loc (c : Thread nD τ)) (q := fullShare)
    (Finset.univ : Finset (Fin 4)) (fun k => wset b (slotR k.isLt))
    (fun k => if k = 0 then f0 else if k = 1 then f1 else if k = 2 then f2 else f3) f0 (slots_disjoint' b hb)
  rw [slots_cover' b hb hw, bigSep_four] at h
  ihave H := h $$ [H0 H1 H2 H3]
  · isplitl [H0]; · iexact H0
    isplitl [H1]; · iexact H1
    isplitl [H2]; · iexact H2
    iexact H3
  icases H with ⟨%g, -, H⟩
  iexists g; iexact H
end Slots

/-- The elements that a rectangle of a memref names. -/
theorem access_set {s : Shape} {e : EltTy} (b : Memref sig .tc .vmem s e) (R : Rect s) : wset b R = R.set.map b.view.emb :=
  View.set_slice _ _
/-- A whole memref names every element. -/
theorem whole_set (r : Ref sig .tc) : (Memref.whole r).view.set = Finset.univ := by simp

/-! ## The eight windows of the result -/

/-- The `r`-th 64 rows lie in the result. -/
theorem row_inb {r : ℕ} (hr : r < 8) : ∀ a, (![64 * r, 0] : Fin 2 → ℕ) a + S64x512.size a ≤ S512x512.size a := by
  have h : ∀ (r : Fin 8) (a : Fin 2), (![64 * r.val, 0] : Fin 2 → ℕ) a + S64x512.size a ≤ S512x512.size a := by decide
  exact h ⟨r, hr⟩
/-- Rows `64 r …` of the result. -/
abbrev rowR {r : ℕ} (hr : r < 8) : Rect S512x512 := Rect.unit (s := S512x512) ![64 * r, 0] S64x512.size (row_inb hr)

/-- An element is in the `r`-th 64 rows exactly when its row divided by 64 is `r`. -/
theorem row_mem {r : ℕ} (hr : r < 8) (i : S512x512.Idx) : i ∈ (rowR hr).set ↔ (i 0).val / 64 = r := by
  rw [Rect.mem_set_unit]
  have h1 : (i 1).val < 512 := (i 1).isLt
  constructor
  · intro h
    have h0 := h 0
    have e0 : (![64 * r, 0] : Fin 2 → ℕ) 0 = 64 * r := rfl
    have e1 : S64x512.size 0 = 64 := rfl
    rw [e0, e1] at h0
    omega
  · intro h a
    match a with
    | ⟨0, _⟩ => show 64 * r ≤ (i 0).val ∧ (i 0).val < 64 * r + 64; omega
    | ⟨1, _⟩ => show 0 ≤ (i 1).val ∧ (i 1).val < 0 + 512; omega
/-- The eight chunks of 64 rows cover the result. -/
theorem rows_cover : (Finset.univ : Finset (Fin 8)).biUnion (fun k => wset outM (rowR k.isLt)) = (Finset.univ : Finset S512x512.Idx) := by
  refine Finset.eq_univ_iff_forall.mpr fun i => Finset.mem_biUnion.mpr ?_
  have h0 : (i 0).val < 512 := (i 0).isLt
  refine ⟨⟨(i 0).val / 64, by omega⟩, Finset.mem_univ _, ?_⟩
  refine (Finset.ext_iff.mp (View.set_slice_whole (κ := .tc) cc0_stg1_0 (rowR (r := (i 0).val / 64) (by omega))) i).mpr ?_
  exact (row_mem _ i).mpr rfl
/-- Different chunks of rows do not meet. -/
theorem rows_disjoint : ∀ k ∈ (Finset.univ : Finset (Fin 8)), ∀ k' ∈ (Finset.univ : Finset (Fin 8)), k ≠ k' →
    Disjoint (wset outM (rowR k.isLt)) (wset outM (rowR k'.isLt)) := by
  intro k _ k' _ h
  rw [show wset outM (rowR k.isLt) = (rowR k.isLt).set from View.set_slice_whole _ _,
    show wset outM (rowR k'.isLt) = (rowR k'.isLt).set from View.set_slice_whole _ _]
  refine Finset.disjoint_left.mpr fun i hi hi' => h (Fin.ext ?_)
  rw [← (row_mem k.isLt i).mp hi, ← (row_mem k'.isLt i).mp hi']

/-- Which half of the result's rows device `c` computes itself. -/
abbrev hx (c : Dev nD) : ℕ := c.val / 2
/-- Where the rows of own chunk `k` start. -/
theorem off_mine : ∀ (c : Dev nD) (k : Fin 4), k0_off2 c (BitVec.ofNat 32 (64 * k.val)) = ![64 * (4 * hx c + k.val), 0] := by decide
/-- Where the rows of the other half's chunk `k` start. -/
theorem off_other : ∀ (c : Dev nD) (k : Fin 4), k0_off3 c (BitVec.ofNat 32 (64 * k.val)) = ![64 * (4 * (1 - hx c) + k.val), 0] := by decide

/-- An own chunk is one of the eight. -/
theorem mine_lt (c : Dev nD) {k : ℕ} (hk : k < 4) : 4 * hx c + k < 8 := by have := c.isLt; unfold hx; have : nD = 4 := rfl; omega
/-- A chunk of the other half is one of the eight. -/
theorem other_lt (c : Dev nD) {k : ℕ} (hk : k < 4) : 4 * (1 - hx c) + k < 8 := by omega

/-- A window held at one offset is held at an equal one. -/
theorem holds_off {c : Dev nD} {o o' : Fin 2 → ℕ} (e : o = o') (h : ∀ a, o a + S64x512.size a ≤ S512x512.size a)
    (h' : ∀ a, o' a + S64x512.size a ≤ S512x512.size a) (v : FVec F S64x512 .f32) :
    (holds c outM (Rect.unit (s := S512x512) o S64x512.size h) v : sProp 𝕄) = holds c outM (Rect.unit (s := S512x512) o' S64x512.size h') v := by
  subst e; rfl
/-- The same with any contents. -/
theorem holdsAny_off {c : Dev nD} {o o' : Fin 2 → ℕ} (e : o = o') (h : ∀ a, o a + S64x512.size a ≤ S512x512.size a)
    (h' : ∀ a, o' a + S64x512.size a ≤ S512x512.size a) :
    (holdsAny c outM (Rect.unit (s := S512x512) o S64x512.size h) : sProp 𝕄) = holdsAny c outM (Rect.unit (s := S512x512) o' S64x512.size h') := by
  subst e; rfl

/-- Rows `64 r …` of what device `c` ends with: its own sums in its half, its neighbour's in the other. -/
def chunk (c : Dev nD) (r : ℕ) : FVec F S64x512 .f32 :=
  if r / 4 = hx c then red m c (k := r % 4) (Nat.mod_lt _ (by decide)) else far m c (k := r % 4) (Nat.mod_lt _ (by decide))
/-- The whole of it. -/
def outC (c : Dev nD) : Vec F S512x512 .f32 := fun i =>
  chunk m c ((i 0).val / 64) (fun a => match a with
    | ⟨0, _⟩ => (⟨(i 0).val % 64, Nat.mod_lt _ (by decide)⟩ : Fin 64)
    | ⟨1, _⟩ => (⟨(i 1).val, (i 1).isLt⟩ : Fin 512))

/-- The finished rows depend on the chunk's number alone. -/
theorem red_congr (c : Dev nD) {k k' : ℕ} (hk : k < 4) (hk' : k' < 4) (e : k = k') : red m c hk = red m c hk' := by subst e; rfl
/-- The received rows depend on the chunk's number alone. -/
theorem far_congr (c : Dev nD) {k k' : ℕ} (hk : k < 4) (hk' : k' < 4) (e : k = k') : far m c hk = far m c hk' := by subst e; rfl
/-- An own chunk of the result is the sum over the two halves. -/
theorem chunk_mine (c : Dev nD) {k : ℕ} (hk : k < 4) : chunk m c (4 * hx c + k) = red m c hk := by
  unfold chunk; rw [if_pos (by omega)]; exact red_congr m c _ _ (by omega)
/-- A chunk of the other half is what came along `x`. -/
theorem chunk_other (c : Dev nD) {k : ℕ} (hk : k < 4) : chunk m c (4 * (1 - hx c) + k) = far m c hk := by
  have h := c.isLt; have hn : nD = 4 := rfl
  unfold chunk; rw [if_neg (by unfold hx; omega)]; exact far_congr m c _ _ (by omega)

/-- The result, read at chunk `r`, is that chunk. -/
theorem out_rows (c : Dev nD) (r : Fin 8) : (outM.access (rowR r.isLt)).read (Elt F) (outC m c) = chunk m c r.val := by
  funext j
  rw [View.read_apply]
  have h0 : (j 0).val < 64 := (j 0).isLt
  show chunk m c ((64 * r.val + 1 * (j 0).val) / 64) _ = _
  have e : (64 * r.val + 1 * (j 0).val) / 64 = r.val := by omega
  rw [e]
  congr 1
  funext a
  match a with
  | ⟨0, _⟩ => exact Fin.ext (show (64 * r.val + 1 * (j 0).val) % 64 = (j 0).val by omega)
  | ⟨1, _⟩ => exact Fin.ext (show 0 + 1 * (j 1).val = (j 1).val by omega)

/-- There are four devices. -/
theorem dev_cases (c : Dev nD) : c = 0 ∨ c = 1 ∨ c = 2 ∨ c = 3 := by revert c; decide

/-- The result's buffer gives the windows of both halves. -/
theorem cut_out (c : Dev nD) : (iprop(∃ f : Buf (Elt F) (outM.view.loc (c : Thread nD τ)), outM.view.loc (c : Thread nD τ) ↦{fullShare} f) : sProp 𝕄)
    ⊢ iprop(holdsAny c outM (mineR c l0) ∗ holdsAny c outM (mineR c l1) ∗ holdsAny c outM (mineR c l2) ∗ holdsAny c outM (mineR c l3)
      ∗ holdsAny c outM (otherR c l0) ∗ holdsAny c outM (otherR c l1) ∗ holdsAny c outM (otherR c l2) ∗ holdsAny c outM (otherR c l3)) := by
  refine (cut_any c outM (fun k : Fin 8 => rowR k.isLt) rows_disjoint rows_cover).trans ?_
  rw [bigSep_eight]
  have hm : ∀ (k : Fin 4), (holdsAny c outM (mineR c k.isLt) : sProp 𝕄) = holdsAny c outM (rowR (mine_lt c k.isLt)) :=
    fun k => holdsAny_off (off_mine c k) _ _
  have ho : ∀ (k : Fin 4), (holdsAny c outM (otherR c k.isLt) : sProp 𝕄) = holdsAny c outM (rowR (other_lt c k.isLt)) :=
    fun k => holdsAny_off (off_other c k) _ _
  rw [show (holdsAny c outM (mineR c l0) : sProp 𝕄) = _ from hm 0, show (holdsAny c outM (mineR c l1) : sProp 𝕄) = _ from hm 1,
    show (holdsAny c outM (mineR c l2) : sProp 𝕄) = _ from hm 2, show (holdsAny c outM (mineR c l3) : sProp 𝕄) = _ from hm 3,
    show (holdsAny c outM (otherR c l0) : sProp 𝕄) = _ from ho 0, show (holdsAny c outM (otherR c l1) : sProp 𝕄) = _ from ho 1,
    show (holdsAny c outM (otherR c l2) : sProp 𝕄) = _ from ho 2, show (holdsAny c outM (otherR c l3) : sProp 𝕄) = _ from ho 3]
  iintro ⟨H0, H1, H2, H3, H4, H5, H6, H7⟩
  rcases dev_cases c with rfl | rfl | rfl | rfl
  · iframe
  · iframe
  · iframe
  · iframe

/-- The filled windows are the result's buffer at what the device ends with. -/
theorem join_out (c : Dev nD) :
    iprop(holds c outM (mineR c l0) (red m c l0) ∗ holds c outM (mineR c l1) (red m c l1) ∗ holds c outM (mineR c l2) (red m c l2)
      ∗ holds c outM (mineR c l3) (red m c l3) ∗ holds c outM (otherR c l0) (far m c l0) ∗ holds c outM (otherR c l1) (far m c l1)
      ∗ holds c outM (otherR c l2) (far m c l2) ∗ holds c outM (otherR c l3) (far m c l3))
      ⊢ (outM.view.loc (c : Thread nD τ) ↦{fullShare} outC m c : sProp 𝕄) := by
  refine BIBase.Entails.trans ?_ (join_holds c outM (fun k : Fin 8 => rowR k.isLt) rows_disjoint rows_cover (fun k => chunk m c k.val) (outC m c) (out_rows m c))
  rw [bigSep_eight]
  have hm : ∀ (k : Fin 4), (holds c outM (mineR c k.isLt) (red m c k.isLt) : sProp 𝕄) = holds c outM (rowR (mine_lt c k.isLt)) (chunk m c (4 * hx c + k.val)) :=
    fun k => (holds_off (off_mine c k) _ _ _).trans (by rw [chunk_mine m c k.isLt])
  have ho : ∀ (k : Fin 4), (holds c outM (otherR c k.isLt) (far m c k.isLt) : sProp 𝕄) = holds c outM (rowR (other_lt c k.isLt)) (chunk m c (4 * (1 - hx c) + k.val)) :=
    fun k => (holds_off (off_other c k) _ _ _).trans (by rw [chunk_other m c k.isLt])
  rw [show (holds c outM (mineR c l0) (red m c l0) : sProp 𝕄) = _ from hm 0, show (holds c outM (mineR c l1) (red m c l1) : sProp 𝕄) = _ from hm 1,
    show (holds c outM (mineR c l2) (red m c l2) : sProp 𝕄) = _ from hm 2, show (holds c outM (mineR c l3) (red m c l3) : sProp 𝕄) = _ from hm 3,
    show (holds c outM (otherR c l0) (far m c l0) : sProp 𝕄) = _ from ho 0, show (holds c outM (otherR c l1) (far m c l1) : sProp 𝕄) = _ from ho 1,
    show (holds c outM (otherR c l2) (far m c l2) : sProp 𝕄) = _ from ho 2, show (holds c outM (otherR c l3) (far m c l3) : sProp 𝕄) = _ from ho 3]
  iintro ⟨H0, H1, H2, H3, H4, H5, H6, H7⟩
  rcases dev_cases c with rfl | rfl | rfl | rfl
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · isplitl [H4]; · iexact H4
    isplitl [H5]; · iexact H5
    isplitl [H6]; · iexact H6
    isplitl [H7]; · iexact H7
    isplitl [H0]; · iexact H0
    isplitl [H1]; · iexact H1
    isplitl [H2]; · iexact H2
    iexact H3
  · isplitl [H4]; · iexact H4
    isplitl [H5]; · iexact H5
    isplitl [H6]; · iexact H6
    isplitl [H7]; · iexact H7
    isplitl [H0]; · iexact H0
    isplitl [H1]; · iexact H1
    isplitl [H2]; · iexact H2
    iexact H3

end Cert.EmbedProof

end
-- ==== Proof.Hand.lean ====
module

public import proofs.«01_k».proof.Proof.Body
public import proofs.«01_k».proof.Proof.Windows

@[expose] public section

noncomputable section

namespace Cert.EmbedProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : GSem nD τ sig → ℕ)

/-! ## What a device brings to the region, in groups -/

/-- The rights to pay a device's table and send semaphores; its `y` receive semaphores; its `x` receive semaphores. -/
def tokOwn (c : Dev nD) : sProp 𝕄 := iprop(tok c 2 (by decide)
      ∗ tok c 3 (by decide)
      ∗ tok c 4 (by decide)
      ∗ tok c 5 (by decide)
      ∗ tok c 6 (by decide)
      ∗ tok c 7 (by decide)
      ∗ tok c 8 (by decide)
      ∗ tok c 9 (by decide)
      ∗ tok c 10 (by decide)
      ∗ tok c 11 (by decide)
      ∗ tok c 12 (by decide)
      ∗ tok c 13 (by decide)
      ∗ tok c 18 (by decide)
      ∗ tok c 19 (by decide)
      ∗ tok c 20 (by decide)
      ∗ tok c 21 (by decide))
/-- The duties that the peer along `y` will fill. -/
def tokY (c : Dev nD) : sProp 𝕄 := iprop(tok c 14 (by decide)
      ∗ tok c 15 (by decide)
      ∗ tok c 16 (by decide)
      ∗ tok c 17 (by decide))
/-- The duties that the peer along `x` will fill. -/
def tokX (c : Dev nD) : sProp 𝕄 := iprop(tok c 22 (by decide)
      ∗ tok c 23 (by decide)
      ∗ tok c 24 (by decide)
      ∗ tok c 25 (by decide))
/-- The rights device `c` pays with: on its own cells, on its neighbours' receive cells and barriers. -/
def rights (c : Dev nD) : sProp 𝕄 :=
  iprop(tokOwn c ∗ tokY (yp c) ∗ tokX (xp c) ∗ dutyTok ER (barCell (yp c)) 0 false ∗ dutyTok ER (barCell (xp c)) 0 true)
/-- Its position before the round of each of its own DMA semaphores. -/
def places (c : Dev nD) : sProp 𝕄 := bigSep Finset.univ fun i : Fin 24 => atPos ER ((c : Thread nD τ), osem i) 0 ∅ 0
/-- The units it is owed: two on its barrier, a chunk on each receive semaphore. -/
def dues (c : Dev nD) : sProp 𝕄 := iprop(cred (tallyAt (barCell c) () 2)
      ∗ cred (tallyAt (dCell c (n := 14) (by decide)) () N)
      ∗ cred (tallyAt (dCell c (n := 15) (by decide)) () N)
      ∗ cred (tallyAt (dCell c (n := 16) (by decide)) () N)
      ∗ cred (tallyAt (dCell c (n := 17) (by decide)) () N)
      ∗ cred (tallyAt (dCell c (n := 22) (by decide)) () N)
      ∗ cred (tallyAt (dCell c (n := 23) (by decide)) () N)
      ∗ cred (tallyAt (dCell c (n := 24) (by decide)) () N)
      ∗ cred (tallyAt (dCell c (n := 25) (by decide)) () N))
/-- Its five scratch buffers, at contents not stated. -/
def scr (c : Dev nD) : sProp 𝕄 := iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f)
      ∗ (∃ f : Buf (Elt F) ((c : Thread nD τ).loc cc0_scratch3), ((c : Thread nD τ).loc cc0_scratch3) ↦{fullShare} f)
      ∗ (∃ f : Buf (Elt F) ((c : Thread nD τ).loc cc0_scratch4), ((c : Thread nD τ).loc cc0_scratch4) ↦{fullShare} f))

/-- A family over the twenty-four own semaphores, one by one. -/
theorem bigSep_own (Φ : Fin 24 → sProp 𝕄) : bigSep Finset.univ Φ
    = iprop(Φ (0 : Fin 24) ∗ Φ (1 : Fin 24) ∗ Φ (2 : Fin 24) ∗ Φ (3 : Fin 24) ∗ Φ (4 : Fin 24) ∗ Φ (5 : Fin 24) ∗ Φ (6 : Fin 24) ∗ Φ (7 : Fin 24) ∗ Φ (8 : Fin 24) ∗ Φ (9 : Fin 24) ∗ Φ (10 : Fin 24) ∗ Φ (11 : Fin 24) ∗ Φ (12 : Fin 24) ∗ Φ (13 : Fin 24) ∗ Φ (14 : Fin 24) ∗ Φ (15 : Fin 24) ∗ Φ (16 : Fin 24) ∗ Φ (17 : Fin 24) ∗ Φ (18 : Fin 24) ∗ Φ (19 : Fin 24) ∗ Φ (20 : Fin 24) ∗ Φ (21 : Fin 24) ∗ Φ (22 : Fin 24) ∗ Φ (23 : Fin 24)) :=
  bigSep_univ_eq_bigSepL [(0 : Fin 24), (1 : Fin 24), (2 : Fin 24), (3 : Fin 24), (4 : Fin 24), (5 : Fin 24), (6 : Fin 24), (7 : Fin 24), (8 : Fin 24), (9 : Fin 24), (10 : Fin 24), (11 : Fin 24), (12 : Fin 24), (13 : Fin 24), (14 : Fin 24), (15 : Fin 24), (16 : Fin 24), (17 : Fin 24), (18 : Fin 24), (19 : Fin 24), (20 : Fin 24), (21 : Fin 24), (22 : Fin 24), (23 : Fin 24)] (by decide) (by decide) Φ
/-- A device's positions at its 24 copy semaphores, written out. -/
theorem places_eq (c : Dev nD) : (places c : sProp 𝕄)
    = iprop(pos c 2 (by decide)
      ∗ pos c 3 (by decide)
      ∗ pos c 4 (by decide)
      ∗ pos c 5 (by decide)
      ∗ pos c 6 (by decide)
      ∗ pos c 7 (by decide)
      ∗ pos c 8 (by decide)
      ∗ pos c 9 (by decide)
      ∗ pos c 10 (by decide)
      ∗ pos c 11 (by decide)
      ∗ pos c 12 (by decide)
      ∗ pos c 13 (by decide)
      ∗ pos c 14 (by decide)
      ∗ pos c 15 (by decide)
      ∗ pos c 16 (by decide)
      ∗ pos c 17 (by decide)
      ∗ pos c 18 (by decide)
      ∗ pos c 19 (by decide)
      ∗ pos c 20 (by decide)
      ∗ pos c 21 (by decide)
      ∗ pos c 22 (by decide)
      ∗ pos c 23 (by decide)
      ∗ pos c 24 (by decide)
      ∗ pos c 25 (by decide)) := by
  unfold places; rw [bigSep_own]; rfl
/-- Its 24 copy semaphores at zero, written out. -/
theorem zeros_eq (c : Dev nD) : (Pipeline.ownSems0 osem c : sProp 𝕄)
    = iprop(zero c 2 (by decide)
      ∗ zero c 3 (by decide)
      ∗ zero c 4 (by decide)
      ∗ zero c 5 (by decide)
      ∗ zero c 6 (by decide)
      ∗ zero c 7 (by decide)
      ∗ zero c 8 (by decide)
      ∗ zero c 9 (by decide)
      ∗ zero c 10 (by decide)
      ∗ zero c 11 (by decide)
      ∗ zero c 12 (by decide)
      ∗ zero c 13 (by decide)
      ∗ zero c 14 (by decide)
      ∗ zero c 15 (by decide)
      ∗ zero c 16 (by decide)
      ∗ zero c 17 (by decide)
      ∗ zero c 18 (by decide)
      ∗ zero c 19 (by decide)
      ∗ zero c 20 (by decide)
      ∗ zero c 21 (by decide)
      ∗ zero c 22 (by decide)
      ∗ zero c 23 (by decide)
      ∗ zero c 24 (by decide)
      ∗ zero c 25 (by decide)) := by
  unfold Pipeline.ownSems0; rw [bigSep_own]; rfl

set_option maxHeartbeats 1600000 in
/-- The groups are what the body takes. -/
theorem body_in (c : Dev nD) :
    iprop(places c ∗ rights c ∗ dues c ∗ atPos ER (barCell c) 0 ∅ 0 ∗ scr c ∗ (tabM.view.loc (c : Thread nD τ) ↦{fullShare} tab m c)
      ∗ idsPts m c ∗ (∃ f : Buf (Elt F) (outM.view.loc (c : Thread nD τ)), outM.view.loc (c : Thread nD τ) ↦{fullShare} f)) ⊢ (bodyIn m c : sProp 𝕄) := by
  rw [places_eq, tab_tiles]
  unfold rights tokOwn tokY tokX dues scr
  iintro ⟨⟨P2, P3, P4, P5, P6, P7, P8, P9, P10, P11, P12, P13, P14, P15, P16, P17, P18, P19, P20, P21, P22, P23, P24, P25⟩, ⟨⟨T2, T3, T4, T5, T6, T7, T8, T9, T10, T11, T12, T13, T18, T19, T20, T21⟩, ⟨T14, T15, T16, T17⟩, ⟨T22, T23, T24, T25⟩, BTY, BTX⟩, ⟨BC, C14, C15, C16, C17, C22, C23, C24, C25⟩, BP, ⟨⟨%fe, S0⟩, S1, S2, S3, S4⟩, ⟨G0, G1, G2, G3, G4, G5, G6, G7⟩, IDS, OUT⟩
  ihave SE := (Entails.of_eq (e_tiles c fe)) $$ S0
  icases SE with ⟨E0, E1, E2, E3, E4, E5, E6, E7⟩
  ihave SYS := (cut_slots c ysM (access_set ysM) (whole_set cc0_scratch1)) $$ S1
  ihave SYR := (cut_slots c yrM (access_set yrM) (whole_set cc0_scratch2)) $$ S2
  ihave SXS := (cut_slots c xsM (access_set xsM) (whole_set cc0_scratch3)) $$ S3
  ihave SXR := (cut_slots c xrM (access_set xrM) (whole_set cc0_scratch4)) $$ S4
  ihave SO := (cut_out c) $$ OUT
  icases SO with ⟨MA0, MA1, MA2, MA3, OA0, OA1, OA2, OA3⟩
  unfold slotsAny
  icases SYS with ⟨YS0, YS1, YS2, YS3⟩
  icases SXS with ⟨XS0, XS1, XS2, XS3⟩
  unfold bodyIn tabGo tabPos yTok xTok yIn xIn slotsAny
  isplitl [G0 E0 T2]
  · isplitl [G0]; · iexact G0
    isplitl [E0]; · iexists fe; iexact E0
    iexact T2
  isplitl [G1 E1 T3]
  · isplitl [G1]; · iexact G1
    isplitl [E1]; · iexists fe; iexact E1
    iexact T3
  isplitl [G2 E2 T4]
  · isplitl [G2]; · iexact G2
    isplitl [E2]; · iexists fe; iexact E2
    iexact T4
  isplitl [G3 E3 T5]
  · isplitl [G3]; · iexact G3
    isplitl [E3]; · iexists fe; iexact E3
    iexact T5
  isplitl [G4 E4 T6]
  · isplitl [G4]; · iexact G4
    isplitl [E4]; · iexists fe; iexact E4
    iexact T6
  isplitl [G5 E5 T7]
  · isplitl [G5]; · iexact G5
    isplitl [E5]; · iexists fe; iexact E5
    iexact T7
  isplitl [G6 E6 T8]
  · isplitl [G6]; · iexact G6
    isplitl [E6]; · iexists fe; iexact E6
    iexact T8
  isplitl [G7 E7 T9]
  · isplitl [G7]; · iexact G7
    isplitl [E7]; · iexists fe; iexact E7
    iexact T9
  isplitl [P2]; · iexact P2
  isplitl [P3]; · iexact P3
  isplitl [P4]; · iexact P4
  isplitl [P5]; · iexact P5
  isplitl [P6]; · iexact P6
  isplitl [P7]; · iexact P7
  isplitl [P8]; · iexact P8
  isplitl [P9]; · iexact P9
  isplitl [IDS]; · iexact IDS
  isplitl [SYR]; · iexact SYR
  isplitl [SXR]; · iexact SXR
  isplitl [BTY]; · iexact BTY
  isplitl [BTX]; · iexact BTX
  isplitl [BC]; · iexact BC
  isplitl [BP]; · iexact BP
  isplitl [MA0]; · iexact MA0
  isplitl [MA1]; · iexact MA1
  isplitl [MA2]; · iexact MA2
  isplitl [MA3]; · iexact MA3
  isplitl [OA0]; · iexact OA0
  isplitl [OA1]; · iexact OA1
  isplitl [OA2]; · iexact OA2
  isplitl [OA3]; · iexact OA3
  isplitl [YS0]; · iexact YS0
  isplitl [YS1]; · iexact YS1
  isplitl [YS2]; · iexact YS2
  isplitl [YS3]; · iexact YS3
  isplitl [XS0]; · iexact XS0
  isplitl [XS1]; · iexact XS1
  isplitl [XS2]; · iexact XS2
  isplitl [XS3]; · iexact XS3
  isplitl [T10 T14]
  · isplitl [T10]; · iexact T10
    iexact T14
  isplitl [T11 T15]
  · isplitl [T11]; · iexact T11
    iexact T15
  isplitl [T12 T16]
  · isplitl [T12]; · iexact T12
    iexact T16
  isplitl [T13 T17]
  · isplitl [T13]; · iexact T13
    iexact T17
  isplitl [T18 T22]
  · isplitl [T18]; · iexact T18
    iexact T22
  isplitl [T19 T23]
  · isplitl [T19]; · iexact T19
    iexact T23
  isplitl [T20 T24]
  · isplitl [T20]; · iexact T20
    iexact T24
  isplitl [T21 T25]
  · isplitl [T21]; · iexact T21
    iexact T25
  isplitl [C14 P14]
  · isplitl [C14]; · iexact C14
    iexact P14
  isplitl [C15 P15]
  · isplitl [C15]; · iexact C15
    iexact P15
  isplitl [C16 P16]
  · isplitl [C16]; · iexact C16
    iexact P16
  isplitl [C17 P17]
  · isplitl [C17]; · iexact C17
    iexact P17
  isplitl [C22 P22]
  · isplitl [C22]; · iexact C22
    iexact P22
  isplitl [C23 P23]
  · isplitl [C23]; · iexact C23
    iexact P23
  isplitl [C24 P24]
  · isplitl [C24]; · iexact C24
    iexact P24
  isplitl [C25 P25]
  · isplitl [C25]; · iexact C25
    iexact P25
  isplitl [P10]; · iexact P10
  isplitl [P11]; · iexact P11
  isplitl [P12]; · iexact P12
  isplitl [P13]; · iexact P13
  isplitl [P18]; · iexact P18
  isplitl [P19]; · iexact P19
  isplitl [P20]; · iexact P20
  iexact P21

set_option maxHeartbeats 1600000 in
/-- What the body leaves, in groups: every own semaphore at zero, the scratch buffers, the table and the ids as they were, the result. -/
theorem body_out (c : Dev nD) : bodyOut m c
    ⊢ (iprop(Pipeline.ownSems0 osem c ∗ semVal (barCell c) 0 ∗ scr c ∗ (tabM.view.loc (c : Thread nD τ) ↦{fullShare} tab m c)
      ∗ idsPts m c ∗ (outM.view.loc (c : Thread nD τ) ↦{fullShare} outC m c)) : sProp 𝕄) := by
  rw [zeros_eq, tab_tiles]
  unfold bodyOut tabBack scr eAll
  iintro ⟨⟨G0, Z2⟩, ⟨G1, Z3⟩, ⟨G2, Z4⟩, ⟨G3, Z5⟩, ⟨G4, Z6⟩, ⟨G5, Z7⟩, ⟨G6, Z8⟩, ⟨G7, Z9⟩, EA, IDS, BZ, MR0, MR1, MR2, MR3, OF0, OF1, OF2, OF3, YO0, YO1, YO2, YO3, YG0, YG1, YG2, YG3, XO0, XO1, XO2, XO3, XG0, XG1, XG2, XG3, Z10, Z11, Z12, Z13, Z14, Z15, Z16, Z17, Z18, Z19, Z20, Z21, Z22, Z23, Z24, Z25⟩
  isplitl [Z2 Z3 Z4 Z5 Z6 Z7 Z8 Z9 Z10 Z11 Z12 Z13 Z14 Z15 Z16 Z17 Z18 Z19 Z20 Z21 Z22 Z23 Z24 Z25]
  · isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    isplitl [Z9]; · iexact Z9
    isplitl [Z10]; · iexact Z10
    isplitl [Z11]; · iexact Z11
    isplitl [Z12]; · iexact Z12
    isplitl [Z13]; · iexact Z13
    isplitl [Z14]; · iexact Z14
    isplitl [Z15]; · iexact Z15
    isplitl [Z16]; · iexact Z16
    isplitl [Z17]; · iexact Z17
    isplitl [Z18]; · iexact Z18
    isplitl [Z19]; · iexact Z19
    isplitl [Z20]; · iexact Z20
    isplitl [Z21]; · iexact Z21
    isplitl [Z22]; · iexact Z22
    isplitl [Z23]; · iexact Z23
    isplitl [Z24]; · iexact Z24
    iexact Z25
  isplitl [BZ]; · iexact BZ
  isplitl [EA YO0 YO1 YO2 YO3 YG0 YG1 YG2 YG3 XO0 XO1 XO2 XO3 XG0 XG1 XG2 XG3]
  · isplitl [EA]; · iexists (tab m c); iexact EA
    isplitl [YO0 YO1 YO2 YO3]
    · iapply (join_slots c ysM (access_set ysM) (whole_set cc0_scratch1))
      unfold slotsAny
      isplitl [YO0]; · iapply (holds_any c ysM (slotR l0) (partB m c l0)); iexact YO0
      isplitl [YO1]; · iapply (holds_any c ysM (slotR l1) (partB m c l1)); iexact YO1
      isplitl [YO2]; · iapply (holds_any c ysM (slotR l2) (partB m c l2)); iexact YO2
      iapply (holds_any c ysM (slotR l3) (partB m c l3)); iexact YO3
    isplitl [YG0 YG1 YG2 YG3]
    · iapply (join_slots c yrM (access_set yrM) (whole_set cc0_scratch2))
      unfold slotsAny
      isplitl [YG0]; · iapply (holds_any c yrM (slotR l0) (partB m (yp c) l0)); iexact YG0
      isplitl [YG1]; · iapply (holds_any c yrM (slotR l1) (partB m (yp c) l1)); iexact YG1
      isplitl [YG2]; · iapply (holds_any c yrM (slotR l2) (partB m (yp c) l2)); iexact YG2
      iapply (holds_any c yrM (slotR l3) (partB m (yp c) l3)); iexact YG3
    isplitl [XO0 XO1 XO2 XO3]
    · iapply (join_slots c xsM (access_set xsM) (whole_set cc0_scratch3))
      unfold slotsAny
      isplitl [XO0]; · iapply (holds_any c xsM (slotR l0) (redB m c l0)); iexact XO0
      isplitl [XO1]; · iapply (holds_any c xsM (slotR l1) (redB m c l1)); iexact XO1
      isplitl [XO2]; · iapply (holds_any c xsM (slotR l2) (redB m c l2)); iexact XO2
      iapply (holds_any c xsM (slotR l3) (redB m c l3)); iexact XO3
    iapply (join_slots c xrM (access_set xrM) (whole_set cc0_scratch4))
    unfold slotsAny
    isplitl [XG0]; · iapply (holds_any c xrM (slotR l0) (redB m (xp c) l0)); iexact XG0
    isplitl [XG1]; · iapply (holds_any c xrM (slotR l1) (redB m (xp c) l1)); iexact XG1
    isplitl [XG2]; · iapply (holds_any c xrM (slotR l2) (redB m (xp c) l2)); iexact XG2
    iapply (holds_any c xrM (slotR l3) (redB m (xp c) l3)); iexact XG3
  isplitl [G0 G1 G2 G3 G4 G5 G6 G7]
  · isplitl [G0]; · iexact G0
    isplitl [G1]; · iexact G1
    isplitl [G2]; · iexact G2
    isplitl [G3]; · iexact G3
    isplitl [G4]; · iexact G4
    isplitl [G5]; · iexact G5
    isplitl [G6]; · iexact G6
    iexact G7
  isplitl [IDS]; · iexact IDS
  iapply (join_out m c)
  isplitl [MR0]; · iexact MR0
  isplitl [MR1]; · iexact MR1
  isplitl [MR2]; · iexact MR2
  isplitl [MR3]; · iexact MR3
  isplitl [OF0]; · iexact OF0
  isplitl [OF1]; · iexact OF1
  isplitl [OF2]; · iexact OF2
  iexact OF3

end Cert.EmbedProof

end
-- ==== Proof.Region.lean ====
module

public import proofs.«01_k».proof.Proof.Hand
public import Idealize.ShloMosaic.Lib.Pipeline.ValueKit.Geometry

@[expose] public section

noncomputable section

namespace Cert.EmbedProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : GSem nD τ sig → ℕ)

/-! ## Contents at the region's two ends -/

/-- A device's buffers when the region is entered, and when it is left: the result array at the assembled result. -/
def W1 (c : Dev nD) : Valuation τ sig (Elt F) := StableHlo.after hostOps0 (fun b => m (c, b))
/-- The buffers after the kernel: the result's holds what the kernel left. -/
def W2 (c : Dev nD) : Valuation τ sig (Elt F) := Function.update (W1 m c) (Proc.devRef .tc main_v2) (outC m c)

/-- There the result is `outC`. -/
theorem W2_out (c : Dev nD) : W2 m c (Proc.devRef .tc main_v2) = outC m c := Function.update_self _ _ _
/-- Every other buffer is as before. -/
theorem W2_ne (c : Dev nD) {b : DevRef τ sig} (h : b ≠ Proc.devRef .tc main_v2) : W2 m c b = W1 m c b := Function.update_of_ne h _ _

/-- The table's half, whole, on device `c`. -/
def tabWhole (c : Dev nD) : sProp 𝕄 := iprop(tabM.view.loc (c : Thread nD τ) ↦{fullShare} tab m c)

/-- What a device holds of the exchange before the body, its cells open; and after, beside its own semaphores at zero. -/
def opened (c : Dev nD) : sProp 𝕄 :=
  iprop((∃ K, records m K) ∗ begun c ∗ levAts L lv ∗ places c ∗ rights c ∗ dues c ∗ atPos ER (barCell c) 0 ∅ 0)
/-- What the body starts from. -/
def before (c : Dev nD) : sProp 𝕄 := iprop(opened m c ∗ scr c ∗ tabWhole m c ∗ ∃ r, prngReg c r)
/-- What the body ends with: all semaphores back at zero. -/
def afterwards (c : Dev nD) : sProp 𝕄 :=
  iprop((Pipeline.ownSems0 osem c ∗ semVal (barCell c) 0) ∗ scr c ∗ tabWhole m c ∗ ∃ r, prngReg c r)

/-- What holds before and after the only grid point. -/
def inv (c : Dev nD) (n : ℕ) : sProp 𝕄 := if n = 0 then before m c else afterwards m c
/-- What is owed before and after it. -/
def owed (c : Dev nD) (n : ℕ) : CellTallies nD τ sig Unit := if n = 0 then O₀ c else 0
/-- After the point, the end state. -/
theorem inv_pos (c : Dev nD) {n : ℕ} (h : n ≠ 0) : (inv m c n : sProp 𝕄) = afterwards m c := if_neg h
/-- After the point nothing is owed. -/
theorem owed_pos (c : Dev nD) {n : ℕ} (h : n ≠ 0) : owed c n = 0 := if_neg h
/-- The grid has one point. -/
theorem points : cfg0.N = 1 := N_0

/-- The region's data: the ids staged in, the result staged out; the device owes `O₀` before its one point, nothing after. -/
def dat0 (c : Dev nD) : Dat τ (Elt F) Unit ℕ UU ℕ cfg0 c where
  A w := V m c (Pipeline.arrRef spec0 w)
  after w _ := match w with
    | ⟨0, _⟩ => ids m c
    | ⟨1, _⟩ => outC m c
  Φ t := inv m c t.val
  q _ := fullShare
  owed t := owed c t.val

/-- Before the point, the start state. -/
theorem before_zero (c : Dev nD) : (dat0 (F := F) m c).Φ t0_0.castSucc = before m c := by show inv m c 0 = _; exact if_pos rfl
/-- After the point, the end state. -/
theorem after_one (c : Dev nD) : (dat0 (F := F) m c).Φ t0_0.succ = afterwards m c := by show inv m c 1 = _; exact inv_pos m c (by decide)
/-- Before the point, all signals and copies to the peers are owed. -/
theorem owed_zero (c : Dev nD) : (dat0 (F := F) m c).owed t0_0.castSucc = O₀ c := by show owed c 0 = _; exact if_pos rfl
/-- After the point nothing is owed. -/
theorem owed_one (c : Dev nD) : (dat0 (F := F) m c).owed t0_0.succ = 0 := by show owed c 1 = _; exact owed_pos c (by decide)

/-- What the pipeline says is owed, in the form that the body uses. -/
theorem owesAt_in {c : Dev nD} (dat : Dat τ (Elt F) Unit ℕ UU ℕ cfg0 c) (t : Fin (cfg0.N + 1))
    {O : CellTallies nD τ sig Unit} (h0 : dat.owed t = O) (hr : dat.recorded t = Set.univ) :
    owing c O ⊢ (dat.owesAt () t : sProp 𝕄) := by
  unfold owing Dat.owesAt Pipeline.owesWithin Dat.bound; rw [h0, hr]
  iintro ⟨%W, HO⟩; iexists W
  isplitr
  · ipureintro; exact fun _ _ => Or.inl trivial
  iexact HO
/-- And back. -/
theorem owesAt_out {c : Dev nD} (dat : Dat τ (Elt F) Unit ℕ UU ℕ cfg0 c) (t : Fin (cfg0.N + 1))
    {O : CellTallies nD τ sig Unit} (h0 : dat.owed t = O) : (dat.owesAt () t : sProp 𝕄) ⊢ owing c O := by
  unfold owing Dat.owesAt Pipeline.owesWithin; rw [h0]
  iintro ⟨%W, -, HO⟩; iexists W; iexact HO

/-- Owning a whole buffer is owning all of its elements. -/
theorem owns_whole_at (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer on device `c`, whole, at contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- What the point starts from, staged blocks included. -/
def pointPre (c : Dev nD) : sProp 𝕄 :=
  iprop((dat0 m c).Φ t0_0.castSucc ∗ (dat0 m c).owesAt () t0_0.castSucc
    ∗ (∃ d, stg c cc0_stg0_0 ((dat0 m c).before (0 : Fin 2) t0_0 d))
    ∗ (∃ d, stg c cc0_stg1_0 ((dat0 m c).before (1 : Fin 2) t0_0 d)))
/-- What the point ends with. -/
def pointPost (c : Dev nD) : sProp 𝕄 :=
  iprop((dat0 m c).Φ t0_0.succ ∗ (dat0 m c).owesAt () t0_0.succ ∗ stg c cc0_stg0_0 (ids m c) ∗ stg c cc0_stg1_0 (outC m c))

/-- The first staged block is the column of ids. -/
theorem staged_ids (c : Dev nD) (d) : (dat0 (F := F) m c).before (0 : Fin 2) t0_0 d = ids m c := by
  unfold Dat.before; rw [if_pos (fetch0_0 t0_0)]; rfl

set_option maxHeartbeats 800000 in
/-- The body at the region's one point. -/
theorem point (c : Dev nD) :
    pointPre m c ⊢ runs c (cc0_body (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9) (fun _ => pointPost m c) := by
  unfold pointPre
  rw [before_zero]
  unfold before opened
  iintro ⟨⟨⟨⟨%K, #HR⟩, #HB, #HL, HP, HT, HC, HA⟩, HS, HM, Hp⟩, HO, ⟨%d0, %g0, %hg0, Hi⟩, ⟨%d1, %g1, %hg1, Ho⟩⟩
  obtain rfl := hg0.trans (staged_ids m c d0)
  ihave HO' := (owesAt_out (dat0 m c) _ (owed_zero m c)) $$ HO
  iapply (body_run m K c) $$ [HP HT HC HA HS HM HO' Hi Ho]
  · isplitr
    · unfold ctx
      isplitr; · iexact HR
      isplitr; · iexact HB
      iexact HL
    isplitr [HO']
    · iapply (body_in m c)
      unfold tabWhole idsPts
      isplitl [HP]; · iexact HP
      isplitl [HT]; · iexact HT
      isplitl [HC]; · iexact HC
      isplitl [HA]; · iexact HA
      isplitl [HS]; · iexact HS
      isplitl [HM]; · iexact HM
      isplitl [Hi]; · iexact Hi
      iexists g1; iexact Ho
    iexact HO'
  iintro ⟨HB, HO⟩
  ihave HB' := (body_out m c) $$ HB
  icases HB' with ⟨HZ, HZb, HS, HM, Hi, Ho⟩
  unfold pointPost
  rw [after_one]
  unfold afterwards tabWhole idsPts
  isplitl [HZ HZb HS HM Hp]
  · isplitl [HZ HZb]
    · isplitl [HZ] <;> iassumption
    isplitl [HS]; · iexact HS
    isplitl [HM]; · iexact HM
    iexact Hp
  isplitl [HO]; · iapply (owesAt_in (dat0 m c) t0_0.succ (owed_one m c) rfl); iexact HO
  isplitl [Hi]
  · iexists (ids m c)
    isplitr; · (ipureintro; rfl)
    iexact Hi
  iexists (outC m c)
  isplitr; · (ipureintro; rfl)
  iexact Ho

set_option maxRecDepth 40000 in
/-- The region's body obligation. -/
theorem body0 (c : Dev nD) : BodyObligation (dat0 (F := F) m c) defs₀ 𝒱₀ () Set.univ := fun t => by
  rw [fin_N0 t, bigSep_W0, bigSep_W0]
  simp only [owns_whole_at]
  show pointPre m c ⊢ wp frame (wpE (defs₀ (F := F)) 𝒱₀ (c : Thread nD τ) none) Set.univ (cc0_body (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9) (fun _ => pointPost m c)
  exact point m c

/-! ## The region -/

/-- The call's configuration is admissible. -/
abbrev adm : (p : Fin 1) → (pcfgs (F := F) p).Adm := fun p => (cfgs p).toPCfg_adm
/-- The data of the only call. -/
def pdats : (p : Fin 1) → (c : Dev nD) → Dat τ (Elt F) Unit ℕ UU ℕ (Pipeline.pin (pcfgs (F := F)) adm p) c
  | 0 => dat0 m

/-- What the launch deals a device for the region, its cells not yet open. -/
def dealt (c : Dev nD) : sProp 𝕄 :=
  iprop((∃ K, records m K) ∗ (bigSep Finset.univ fun i : Fin 24 => openTok ER ((c : Thread nD τ), osem i))
    ∗ rights c ∗ dues c ∗ atPos ER (barCell c) 0 ∅ 0)

/-- One copy semaphore's invariant, out of all. -/
theorem records_at (K : GSem nD τ sig → ℕ) (c : Dev nD) (i : Fin 24) :
    records m K ⊢ (cellInv ER (rd (F := F) m) (K ((c : Thread nD τ), osem i)) ((c : Thread nD τ), osem i) : sProp 𝕄) := by
  unfold records
  exact sep_elim_left.trans (bigSep_elim (Finset.mem_union_right _ (Finset.mem_map_of_mem scEmb (Finset.mem_univ (c, i)))))

/-- One of a device's own cells opened. -/
theorem open_one (K : GSem nD τ sig → ℕ) (c : Dev nD) (i : Fin 24) :
    (iprop(records m K ∗ (openTok ER ((c : Thread nD τ), osem i) ∗ semVal ((c : Thread nD τ), osem i) 0)) : sProp 𝕄)
      ⊢ iprop(|={Set.univ}=> (atPos ER ((c : Thread nD τ), osem i) 0 ∅ 0 ∗ reached ER ((c : Thread nD τ), osem i) 0)) := by
  iintro ⟨#HR, Ho, Hz⟩
  iapply (Rounds.cell_open ER (rd m) (g := ((c : Thread nD τ), osem i)) (Set.mem_univ (K ((c : Thread nD τ), osem i))))
  isplitr; · iapply (records_at m K c i); iexact HR
  isplitl [Ho] <;> iassumption

/-- All of a device's own cells opened: the positions, and that their rounds have begun. -/
theorem open_all (K : GSem nD τ sig → ℕ) (c : Dev nD) :
    (iprop(records m K ∗ (bigSep Finset.univ fun i : Fin 24 => openTok ER ((c : Thread nD τ), osem i)) ∗ Pipeline.ownSems0 osem c) : sProp 𝕄)
      ⊢ iprop(|={Set.univ}=> (places c ∗ begun c)) := by
  have h1 : (iprop(records m K ∗ (bigSep Finset.univ fun i : Fin 24 => iprop(openTok ER ((c : Thread nD τ), osem i) ∗ semVal ((c : Thread nD τ), osem i) 0))) : sProp 𝕄)
      ⊢ bigSep Finset.univ fun i : Fin 24 => iprop(|={Set.univ}=> (atPos ER ((c : Thread nD τ), osem i) 0 ∅ 0 ∗ reached ER ((c : Thread nD τ), osem i) 0)) :=
    bigSep_with_persistent (R := records m K) (Φ := fun i : Fin 24 => iprop(openTok ER ((c : Thread nD τ), osem i) ∗ semVal ((c : Thread nD τ), osem i) 0))
      fun i _ => open_one m K c i
  have h2 : (bigSep Finset.univ fun i : Fin 24 => (iprop(atPos ER ((c : Thread nD τ), osem i) 0 ∅ 0 ∗ reached ER ((c : Thread nD τ), osem i) 0) : sProp 𝕄))
      ⊢ iprop(places c ∗ begun c) := by unfold places begun; exact Entails.of_eq (bigSep_sep' _ _ _)
  iintro ⟨HR, Ho, Hz⟩
  ihave H := (h1.trans (BI.bigSep_fupd _ _)) $$ [HR Ho Hz]
  · isplitl [HR]; · iexact HR
    iapply (Entails.of_eq (bigSep_sep' Finset.univ (fun i : Fin 24 => (openTok ER ((c : Thread nD τ), osem i) : sProp 𝕄)) (fun i : Fin 24 => (semVal ((c : Thread nD τ), osem i) 0 : sProp 𝕄))).symm)
    unfold Pipeline.ownSems0
    isplitl [Ho] <;> iassumption
  imod H with H
  imodintro
  iapply h2
  iexact H

/-- A device's share becomes what its body starts from. -/
theorem hopen (c : Dev nD) : iprop(dealt m c ∗ Pipeline.ownSems0 osem c ∗ levAts L lv) ⊢ (|={Set.univ}=> opened m c : sProp 𝕄) := by
  unfold dealt opened
  iintro ⟨⟨⟨%K, #HR⟩, Ho, HT, HC, HA⟩, Hz, #HL⟩
  imod (open_all m K c) $$ [Ho Hz] with ⟨HP, HB⟩
  · isplitr; · iexact HR
    isplitl [Ho] <;> iassumption
  imodintro
  isplitr; · iexists K; iexact HR
  isplitl [HB]; · iexact HB
  isplitr; · iexact HL
  isplitl [HP]; · iexact HP
  isplitl [HT]; · iexact HT
  isplitl [HC]; · iexact HC
  iexact HA

/-- The buffers outside the windows that the run holds, and the one the body addresses itself. -/
abbrev restB : Finset (DevRef τ sig) := {Proc.devRef .tc main_arg0, Proc.devRef .tc main_arg1}
/-- The buffers that the body copies from by itself: the table. -/
abbrev tabB : Finset (DevRef τ sig) := {Proc.devRef .tc main_arg1}

/-- The table held is the table whole. -/
theorem held_tab (c : Dev nD) (X : Valuation τ sig (Elt F)) (h : X (Proc.devRef .tc main_arg1) = W1 m c (Proc.devRef .tc main_arg1)) :
    (StableHlo.held (c.tc : Thread nD τ) tabB X : sProp 𝕄) = tabWhole m c := by
  unfold StableHlo.held; rw [bigSep_singleton, h]; rfl

/-- The scratch buffers, as the body names them. -/
theorem scopedRest_scr (c : Dev nD) :
    (Pipeline.scopedRest (Ix := Unit) (Name := ℕ) (U := UU) (Lvl := ℕ) (Val := Elt F) (Pipeline.pin (pcfgs (F := F)) adm 0).spec c : sProp 𝕄) = scr c :=
  scopedRest0_eq c

/-- Entering the call. -/
theorem hin (c : Dev nD) : iprop(Pipeline.scopedRest (Pipeline.pin (pcfgs (F := F)) adm 0).spec c ∗ (∃ r, prngReg c r)
      ∗ StableHlo.held (c.tc : Thread nD τ) tabB (W1 m c) ∗ opened m c) ⊢ (pdats m 0 c).Φ 0 := by
  rw [show (pdats m 0 c).Φ 0 = before m c from by { show inv m c 0 = _; exact if_pos rfl }, scopedRest_scr, held_tab m c _ rfl]
  unfold before
  iintro ⟨Hs, Hp, Ht, Ho⟩
  isplitl [Ho]; · iexact Ho
  isplitl [Hs]; · iexact Hs
  isplitl [Ht]; · iexact Ht
  iexact Hp

/-- Leaving the call. -/
theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) tabB (W2 m c) ∗ Pipeline.ownSems0 osem c ∗ semVal (barCell c) 0) := by
  rw [show (pdats m 0 c).Φ (Fin.last _) = afterwards m c from by { show inv m c cfg0.N = _; exact inv_pos m c (by rw [points]; decide) }, scopedRest_scr, held_tab m c _ (W2_ne m c (by decide))]
  unfold afterwards
  iintro ⟨⟨Hz, Hb⟩, Hs, Ht, Hp⟩
  isplitl [Hs]; · iexact Hs
  isplitl [Hp]; · iexact Hp
  isplitl [Ht]; · iexact Ht
  isplitl [Hz] <;> iassumption

/-- Whatever is owed lies above level zero. -/
theorem cut (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = owed c t.val := rfl
  rw [e] at h; unfold owed at h
  split at h
  · exact above_O₀ c g i h
  · exact absurd h (Nat.lt_irrefl 0)

/-- The pipeline's own semaphores, by number. -/
theorem staging_low : ∀ (w : Fin 2) (s : Fin (spec0 w).nbuf), ((spec0 w).sem s).val < 14 := by decide
/-- The pipeline's own semaphores are at level zero. -/
theorem staging_level (c : Dev nD) (w : Fin 2) (s : Fin (spec0 w).nbuf) : lv ((c : Thread nD τ), .dma ((spec0 w).sem s)) () ≤ 0 := by
  have h := staging_low w s
  show (if 22 ≤ ((spec0 w).sem s).val then 3 else if 14 ≤ ((spec0 w).sem s).val ∧ ((spec0 w).sem s).val < 18 then 2 else 0) ≤ 0
  rw [if_neg (by omega), if_neg (by omega)]

/-- Side conditions of the launch. -/
theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The two arrays the windows stage, at the region's ends. -/
theorem arrays_in (c : Dev nD) (w : Fin 2) : (pdats (F := F) m 0 c).arrAt w 0 = W1 m c (Proc.devRef .tc (Pipeline.arrRef spec0 w)) := by
  fin_cases w <;> rfl
/-- After the call each array is as `W2` says. -/
theorem arrays_out (c : Dev nD) (w : Fin 2) : (pdats (F := F) m 0 c).arrAt w cfg0.N = W2 m c (Proc.devRef .tc (Pipeline.arrRef spec0 w)) := by
  fin_cases w
  · refine (Dat.arrAt_in (dat := dat0 m c) (w := (0 : Fin 2)) rfl cfg0.N).trans ?_
    exact (W2_ne m c (by decide)).symm
  · refine (Dat.arrAt_eq_of_after_last (dat := dat0 m c) (w := (1 : Fin 2)) t0_0 (by decide +kernel) (outC m c) (fun j => rfl)).trans ?_
    exact (W2_out m c).symm

set_option backward.isDefEq.respectTransparency.types false in
/-- The region as a segment of the program. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    tabB restB (by decide) kit0 rfl (fun c => (body0 m c).loose)
    (fun _ => 0) O₀ (fun c => (show owed c 0 = O₀ c from if_pos rfl).trans (zero_add _).symm)
    (fun c => (show owed c cfg0.N = 0 from owed_pos c (by rw [points]; decide))) (fun _ => rfl)
    (fun c w => by show (dat0 m c).share w = fullShare; unfold Dat.share; split <;> rfl)
    (W1 m) (W2 m) (fun c b hb => W2_ne m c (by rintro rfl; revert hb; decide))
    (dealt m) (fun c => semVal (barCell c) 0) (opened m) (fun c => semVal (barCell c) 0) (hopen m) (hin m) (hout m)
    (fun c => by iintro H; imodintro; iexact H)
    (fun _ => 0)
    ⟨fun c w s => by rw [L_tc]; exact Finset.mem_singleton_self _,
     fun c w s => staging_level c w s,
     fun c t g i h => cut m c t g i h⟩
    (fun _ => iprop(emp))
    (arrays_in m) (arrays_out m)

end Cert.EmbedProof

end
-- ==== Proof.Launch.lean ====
module

public import proofs.«01_k».proof.Proof.Region

@[expose] public section

noncomputable section

namespace Cert.EmbedProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : GSem nD τ sig → ℕ)

/-! ## Tokens -/

/-- The duties of one device's cells: one on each of its own semaphores, two on its barrier. -/
abbrev duty : Fin 26 → SemLoc sig × Bool := fun j =>
  if h : j.val < 24 then (osem ⟨j.val, h⟩, true) else (.reg barS, decide (j.val = 25))
/-- Different duties lie at different places. -/
theorem duty_inj : Function.Injective duty := by decide
/-- All duties of all devices. -/
def allToks : Finset (GSem nD τ sig × ℕ × Bool) :=
  Finset.univ.map ⟨fun cj : Dev nD × Fin 26 => (((cj.1 : Thread nD τ), (duty cj.2).1), 0, (duty cj.2).2), fun _ _ h =>
    Prod.ext (congrArg (fun t : GSem nD τ sig × ℕ × Bool => t.1.1.1) h)
      (duty_inj (Prod.ext (congrArg (fun t : GSem nD τ sig × ℕ × Bool => t.1.2) h) (congrArg (fun t : GSem nD τ sig × ℕ × Bool => t.2.2) h)))⟩

/-- No copy semaphore is the barrier. -/
theorem osem_ne_bar : ∀ i : Fin 24, osem i ≠ .reg barS := by decide
/-- Barrier cells and copy cells are different. -/
theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- The rights to pay the duties of device `c`'s cells, grouped by who will pay them: `c`, `yp c`, `xp c`. -/
def toks (c : Dev nD) : sProp 𝕄 :=
  iprop(tokOwn c ∗ tokY c ∗ tokX c ∗ dutyTok ER (barCell c) 0 false ∗ dutyTok ER (barCell c) 0 true)

/-- A conjunction over a device's 26 duties, written out. -/
theorem bigSep_duties (Φ : Fin 26 → sProp 𝕄) : bigSep Finset.univ Φ
    = iprop(Φ (0 : Fin 26) ∗ Φ (1 : Fin 26) ∗ Φ (2 : Fin 26) ∗ Φ (3 : Fin 26) ∗ Φ (4 : Fin 26) ∗ Φ (5 : Fin 26) ∗ Φ (6 : Fin 26) ∗ Φ (7 : Fin 26) ∗ Φ (8 : Fin 26) ∗ Φ (9 : Fin 26) ∗ Φ (10 : Fin 26) ∗ Φ (11 : Fin 26) ∗ Φ (12 : Fin 26) ∗ Φ (13 : Fin 26) ∗ Φ (14 : Fin 26) ∗ Φ (15 : Fin 26) ∗ Φ (16 : Fin 26) ∗ Φ (17 : Fin 26) ∗ Φ (18 : Fin 26) ∗ Φ (19 : Fin 26) ∗ Φ (20 : Fin 26) ∗ Φ (21 : Fin 26) ∗ Φ (22 : Fin 26) ∗ Φ (23 : Fin 26) ∗ Φ (24 : Fin 26) ∗ Φ (25 : Fin 26)) :=
  bigSep_univ_eq_bigSepL [(0 : Fin 26), (1 : Fin 26), (2 : Fin 26), (3 : Fin 26), (4 : Fin 26), (5 : Fin 26), (6 : Fin 26), (7 : Fin 26), (8 : Fin 26), (9 : Fin 26), (10 : Fin 26), (11 : Fin 26), (12 : Fin 26), (13 : Fin 26), (14 : Fin 26), (15 : Fin 26), (16 : Fin 26), (17 : Fin 26), (18 : Fin 26), (19 : Fin 26), (20 : Fin 26), (21 : Fin 26), (22 : Fin 26), (23 : Fin 26), (24 : Fin 26), (25 : Fin 26)] (by decide) (by decide) Φ

/-- A device's 26 duties, as its body names them. -/
theorem toks_of (c : Dev nD) :
    (bigSep Finset.univ fun j : Fin 26 => (dutyTok ER ((c : Thread nD τ), (duty j).1) 0 (duty j).2 : sProp 𝕄)) ⊢ toks c := by
  rw [bigSep_duties]
  show (iprop(tok c 2 (by decide) ∗ tok c 3 (by decide) ∗ tok c 4 (by decide) ∗ tok c 5 (by decide) ∗ tok c 6 (by decide) ∗ tok c 7 (by decide) ∗ tok c 8 (by decide) ∗ tok c 9 (by decide) ∗ tok c 10 (by decide) ∗ tok c 11 (by decide) ∗ tok c 12 (by decide) ∗ tok c 13 (by decide) ∗ tok c 14 (by decide) ∗ tok c 15 (by decide) ∗ tok c 16 (by decide) ∗ tok c 17 (by decide) ∗ tok c 18 (by decide) ∗ tok c 19 (by decide) ∗ tok c 20 (by decide) ∗ tok c 21 (by decide) ∗ tok c 22 (by decide) ∗ tok c 23 (by decide) ∗ tok c 24 (by decide) ∗ tok c 25 (by decide) ∗ dutyTok ER (barCell c) 0 false ∗ dutyTok ER (barCell c) 0 true) : sProp 𝕄) ⊢ toks c
  unfold toks tokOwn tokY tokX
  iintro ⟨T2, T3, T4, T5, T6, T7, T8, T9, T10, T11, T12, T13, T14, T15, T16, T17, T18, T19, T20, T21, T22, T23, T24, T25, B0, B1⟩
  isplitl [T2 T3 T4 T5 T6 T7 T8 T9 T10 T11 T12 T13 T18 T19 T20 T21]
  · isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    isplitl [T12]; · iexact T12
    isplitl [T13]; · iexact T13
    isplitl [T18]; · iexact T18
    isplitl [T19]; · iexact T19
    isplitl [T20]; · iexact T20
    iexact T21
  isplitl [T14 T15 T16 T17]
  · isplitl [T14]; · iexact T14
    isplitl [T15]; · iexact T15
    isplitl [T16]; · iexact T16
    iexact T17
  isplitl [T22 T23 T24 T25]
  · isplitl [T22]; · iexact T22
    isplitl [T23]; · iexact T23
    isplitl [T24]; · iexact T24
    iexact T25
  isplitl [B0] <;> iassumption

/-- All duties, dealt to the devices. -/
theorem toks_all : bigSep allToks (fun x => (dutyTok ER x.1 x.2.1 x.2.2 : sProp 𝕄)) ⊢ bigSep Finset.univ fun c : Dev nD => toks c := by
  unfold allToks; rw [bigSep_map, bigSep_univ_prod]
  exact bigSep_mono fun c _ => toks_of c

/-- Dealt around: each device gets the rights to pay its neighbours' receive semaphores and barriers. -/
theorem toks_around : (bigSep Finset.univ fun c : Dev nD => (toks c : sProp 𝕄)) ⊢ bigSep Finset.univ fun c : Dev nD => rights c := by
  unfold toks rights
  rw [bigSep_sep', bigSep_sep', bigSep_sep', bigSep_sep', bigSep_sep', bigSep_sep', bigSep_sep', bigSep_sep',
    bigSep_univ_equiv yswap (fun c : Dev nD => (tokY c : sProp 𝕄)), bigSep_univ_equiv xswap (fun c : Dev nD => (tokX c : sProp 𝕄)),
    bigSep_univ_equiv yswap (fun c : Dev nD => (dutyTok ER (barCell c) 0 false : sProp 𝕄)),
    bigSep_univ_equiv xswap (fun c : Dev nD => (dutyTok ER (barCell c) 0 true : sProp 𝕄))]
  exact BI.Entails.refl _

/-! ## The launch credit -/

/-- The tally each device owes a neighbour's cell, as a family over the devices. -/
abbrev owedY {n : ℕ} (hn : n < 26) (d : Dev nD) : CellTallies nD τ sig Unit := tallyAt (dCell (yp d) hn) () N
/-- What is owed to the peer along `x` at one semaphore. -/
abbrev owedX {n : ℕ} (hn : n < 26) (d : Dev nD) : CellTallies nD τ sig Unit := tallyAt (dCell (xp d) hn) () N

/-- The credit for what the peer along `y` owes. -/
theorem cred_y {n : ℕ} (hn : n < 26) (c : Dev nD) : (Pipeline.launchCred (owedY hn) c : sProp 𝕄) ⊢ cred (tallyAt (dCell c hn) () N) :=
  Pipeline.launchCred_tallyAt (.dma (dS hn)) yp yp yp_yp yp_yp () N c
/-- The credit for what the peer along `x` owes. -/
theorem cred_x {n : ℕ} (hn : n < 26) (c : Dev nD) : (Pipeline.launchCred (owedX hn) c : sProp 𝕄) ⊢ cred (tallyAt (dCell c hn) () N) :=
  Pipeline.launchCred_tallyAt (.dma (dS hn)) xp xp xp_xp xp_xp () N c

/-- All credits of a device. -/
theorem creds (c : Dev nD) : (Pipeline.launchCred O₀ c : sProp 𝕄) ⊢ dues c := by
  have e : O₀ = (fun d : Dev nD => (0 : CellTallies nD τ sig Unit) + owedX (n := 25) (by decide) d + owedX (n := 24) (by decide) d + owedX (n := 23) (by decide) d + owedX (n := 22) (by decide) d + owedY (n := 17) (by decide) d + owedY (n := 16) (by decide) d + owedY (n := 15) (by decide) d + owedY (n := 14) (by decide) d + tallyAt (barCell (xp d)) () 1 + tallyAt (barCell (yp d)) () 1) := by
    funext d; unfold O₀ owesY owesX; rfl
  rw [e]
  rw [Pipeline.launchCred_add (fun d : Dev nD => (0 : CellTallies nD τ sig Unit) + owedX (n := 25) (by decide) d + owedX (n := 24) (by decide) d + owedX (n := 23) (by decide) d + owedX (n := 22) (by decide) d + owedY (n := 17) (by decide) d + owedY (n := 16) (by decide) d + owedY (n := 15) (by decide) d + owedY (n := 14) (by decide) d + tallyAt (barCell (xp d)) () 1) (fun d : Dev nD => tallyAt (barCell (yp d)) () 1) c]
  rw [Pipeline.launchCred_add (fun d : Dev nD => (0 : CellTallies nD τ sig Unit) + owedX (n := 25) (by decide) d + owedX (n := 24) (by decide) d + owedX (n := 23) (by decide) d + owedX (n := 22) (by decide) d + owedY (n := 17) (by decide) d + owedY (n := 16) (by decide) d + owedY (n := 15) (by decide) d + owedY (n := 14) (by decide) d) (fun d : Dev nD => tallyAt (barCell (xp d)) () 1) c]
  rw [Pipeline.launchCred_add (fun d : Dev nD => (0 : CellTallies nD τ sig Unit) + owedX (n := 25) (by decide) d + owedX (n := 24) (by decide) d + owedX (n := 23) (by decide) d + owedX (n := 22) (by decide) d + owedY (n := 17) (by decide) d + owedY (n := 16) (by decide) d + owedY (n := 15) (by decide) d) (fun d : Dev nD => owedY (n := 14) (by decide) d) c]
  rw [Pipeline.launchCred_add (fun d : Dev nD => (0 : CellTallies nD τ sig Unit) + owedX (n := 25) (by decide) d + owedX (n := 24) (by decide) d + owedX (n := 23) (by decide) d + owedX (n := 22) (by decide) d + owedY (n := 17) (by decide) d + owedY (n := 16) (by decide) d) (fun d : Dev nD => owedY (n := 15) (by decide) d) c]
  rw [Pipeline.launchCred_add (fun d : Dev nD => (0 : CellTallies nD τ sig Unit) + owedX (n := 25) (by decide) d + owedX (n := 24) (by decide) d + owedX (n := 23) (by decide) d + owedX (n := 22) (by decide) d + owedY (n := 17) (by decide) d) (fun d : Dev nD => owedY (n := 16) (by decide) d) c]
  rw [Pipeline.launchCred_add (fun d : Dev nD => (0 : CellTallies nD τ sig Unit) + owedX (n := 25) (by decide) d + owedX (n := 24) (by decide) d + owedX (n := 23) (by decide) d + owedX (n := 22) (by decide) d) (fun d : Dev nD => owedY (n := 17) (by decide) d) c]
  rw [Pipeline.launchCred_add (fun d : Dev nD => (0 : CellTallies nD τ sig Unit) + owedX (n := 25) (by decide) d + owedX (n := 24) (by decide) d + owedX (n := 23) (by decide) d) (fun d : Dev nD => owedX (n := 22) (by decide) d) c]
  rw [Pipeline.launchCred_add (fun d : Dev nD => (0 : CellTallies nD τ sig Unit) + owedX (n := 25) (by decide) d + owedX (n := 24) (by decide) d) (fun d : Dev nD => owedX (n := 23) (by decide) d) c]
  rw [Pipeline.launchCred_add (fun d : Dev nD => (0 : CellTallies nD τ sig Unit) + owedX (n := 25) (by decide) d) (fun d : Dev nD => owedX (n := 24) (by decide) d) c]
  rw [Pipeline.launchCred_add (fun d : Dev nD => (0 : CellTallies nD τ sig Unit)) (fun d : Dev nD => owedX (n := 25) (by decide) d) c]
  unfold dues
  iintro ⟨⟨⟨⟨⟨⟨⟨⟨⟨⟨-, X25⟩, X24⟩, X23⟩, X22⟩, Y17⟩, Y16⟩, Y15⟩, Y14⟩, BX⟩, BY⟩
  ihave CX := (Pipeline.launchCred_tallyAt (.reg barS) xp xp xp_xp xp_xp () 1 c) $$ BX
  ihave CY := (Pipeline.launchCred_tallyAt (.reg barS) yp yp yp_yp yp_yp () 1 c) $$ BY
  isplitl [CX CY]
  · rw [show (tallyAt (barCell c) () 2 : CellTallies nD τ sig Unit) = tallyAt (barCell c) () 1 + tallyAt (barCell c) () 1 from (tallyAt_add (barCell c) () 1 1).symm]
    iapply (cred_add (tallyAt (barCell c) () 1) (tallyAt (barCell c) () 1)).2
    isplitl [CX] <;> iassumption
  isplitl [Y14]; · iapply (cred_y (n := 14) _ c); iexact Y14
  isplitl [Y15]; · iapply (cred_y (n := 15) _ c); iexact Y15
  isplitl [Y16]; · iapply (cred_y (n := 16) _ c); iexact Y16
  isplitl [Y17]; · iapply (cred_y (n := 17) _ c); iexact Y17
  isplitl [X22]; · iapply (cred_x (n := 22) _ c); iexact X22
  isplitl [X23]; · iapply (cred_x (n := 23) _ c); iexact X23
  isplitl [X24]; · iapply (cred_x (n := 24) _ c); iexact X24
  iapply (cred_x (n := 25) _ c); iexact X25

/-! ## The program's segments -/

/-- The buffers that live through the program. -/
def bufs : Finset (DevRef τ sig) := (StableHlo.tcRefs τ sig).filter fun b => ¬ b.isScoped

/-- The buffers at launch are held by the host code. -/
theorem unscopedBufs_held (c : Dev nD) (X : Valuation τ sig (Elt F)) :
    (unscopedBufs c (fun b => X b) : sProp 𝕄) = StableHlo.held (c : Thread nD τ) bufs X := by
  unfold unscopedBufs StableHlo.held bufs StableHlo.tcRefs
  rw [Finset.filter_map, BI.bigSep_map]
  rfl

/-- The only semaphore that outlives the call is the barrier, at zero. -/
theorem unscopedSems0_bar (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- The buffers that the call stages. -/
abbrev winB : Finset (DevRef τ sig) := Pipeline.arrRefs (τ := τ) (pcfgs (F := F) 0).spec
/-- They are the column of ids and the result. -/
theorem winB_eq : winB (F := F) = {Proc.devRef .tc main_v1, Proc.devRef .tc main_v2} := by
  unfold winB Pipeline.arrRefs; rfl
/-- The buffers held, cut into those that the call uses and the rest. -/
theorem held_split (c : Dev nD) (X : Valuation τ sig (Elt F)) :
    (StableHlo.held (c : Thread nD τ) bufs X : sProp 𝕄)
      = iprop(StableHlo.held (c : Thread nD τ) (winB (F := F)) X ∗ StableHlo.held (c : Thread nD τ) restB X) := by
  rw [winB_eq, StableHlo.held_sub_split (c : Thread nD τ) (T := {Proc.devRef .tc main_v1, Proc.devRef .tc main_v2}) (S := bufs) (by decide) X,
    show (bufs \ {Proc.devRef .tc main_v1, Proc.devRef .tc main_v2} : Finset (DevRef τ sig)) = restB from by decide]

/-- The buffers held, written out. -/
theorem held_bufs (c : Dev nD) (X : Valuation τ sig (Elt F)) : (StableHlo.held (c : Thread nD τ) bufs X : sProp 𝕄)
    = iprop((((c : Thread nD τ).loc main_arg0) ↦{fullShare} X (Proc.devRef .tc main_arg0)) ∗ (((c : Thread nD τ).loc main_arg1) ↦{fullShare} X (Proc.devRef .tc main_arg1))
      ∗ (((c : Thread nD τ).loc main_v1) ↦{fullShare} X (Proc.devRef .tc main_v1)) ∗ (((c : Thread nD τ).loc main_v2) ↦{fullShare} X (Proc.devRef .tc main_v2))) := by
  unfold StableHlo.held
  rw [bigSep_eq_bigSepL_of_eq [Proc.devRef .tc main_arg0, Proc.devRef .tc main_arg1, Proc.devRef .tc main_v1, Proc.devRef .tc main_v2] (by decide) (by decide)]
  rfl

/-- What rides beside the buffers up to the region. -/
def R (c : Dev nD) : sProp 𝕄 := iprop((dealt m c ∗ ∃ r, prngReg c r) ∗ owing c (O₀ c))

/-- The host code touches the launch buffers only. -/
theorem ops_sub : ∀ op ∈ (hostOps0 : List (HloOp τ sig (Elt F))), op.bufs ⊆ bufs := fun op h => by
  simp only [hostOps0, List.mem_singleton] at h; subst h
  show ({Proc.devRef .tc main_arg0, Proc.devRef .tc main_v1} : Finset (DevRef τ sig)) ⊆ bufs; decide
/-- The host code allocates nothing. -/
theorem ops_fresh : ∀ op ∈ (hostOps0 : List (HloOp τ sig (Elt F))), op.fresh = ∅ := fun op h => by
  simp only [hostOps0, List.mem_singleton] at h; subst h; rfl

/-- The host's part: the ids reshaped to a column. -/
def seg0 : Pipeline.HostSeg (Name := ℕ) (U := UU) (pcfgs (F := F)) defs₀ 𝒱₀ L lv :=
  Pipeline.HostSeg.ofOps _ _ _ _ _ bufs hostOps0 ops_sub ops_fresh (fun c b => m (c, b)) (R m)

/-- The program in segments: host code, then the call. -/
def segs : List (Pipeline.Seg (pcfgs (F := F)) adm (pdats m) () defs₀ 𝒱₀ L lv) := [.host (seg0 m), .region (reg0 m)]

/-- The program is its segments. -/
theorem main_eq (c : Dev nD) : main (F := F) c = Pipeline.Seg.run (segs m) :=
  main_segs adm (pdats m) () 𝒱₀ L lv (seg0 m) (reg0 m) rfl c

/-- The state after the host code is what the call starts from. -/
theorem reg0_pre (c : Dev nD) : iprop(StableHlo.held (c : Thread nD τ) bufs (W1 m c) ∗ R m c) ⊢ (reg0 m).pre c := by
  show _ ⊢ iprop(StableHlo.held (c.tc : Thread nD τ) (winB (F := F)) (W1 m c) ∗ (∃ r, prngReg c r)
    ∗ (StableHlo.held (c.tc : Thread nD τ) restB (W1 m c) ∗ emp) ∗ dealt m c ∗ ∃ Wd, owes (c : Thread nD τ) (0 + O₀ c) Wd)
  rw [held_split, zero_add]
  unfold R owing
  iintro ⟨⟨Ha, Hr⟩, ⟨Hd, Hp⟩, HO⟩
  isplitl [Ha]; · iexact Ha
  isplitl [Hp]; · iexact Hp
  isplitl [Hr]
  · isplitl [Hr]; · iexact Hr
    iempintro
  isplitl [Hd]; · iexact Hd
  iexact HO

/-- What the call leaves. -/
theorem reg0_post (c : Dev nD) : (reg0 m).post c
    ⊢ iprop((StableHlo.held (c : Thread nD τ) bufs (W2 m c) ∗ semVal (barCell c) 0) ∗ ∃ W, owes (c : Thread nD τ) (0 : CellTallies nD τ sig Unit) W) := by
  show iprop(StableHlo.held (c.tc : Thread nD τ) (winB (F := F)) (W2 m c) ∗ (∃ r, prngReg c r)
    ∗ (StableHlo.held (c.tc : Thread nD τ) restB (W2 m c) ∗ emp) ∗ semVal (barCell c) 0 ∗ ∃ Wd, owes (c : Thread nD τ) (0 : CellTallies nD τ sig Unit) Wd) ⊢ _
  rw [held_split]
  iintro ⟨Ha, -, ⟨Hr, -⟩, Hb, HO⟩
  isplitr [HO]
  · isplitr [Hb]
    · isplitl [Ha] <;> iassumption
    iexact Hb
  iexact HO

/-! ## The launch -/

/-- The launch element: the pipeline library's at the staging cells; the exchange's at the barrier and own cells. -/
def u₀ : UU :=
  (initOf (Pipeline.cells (Pipeline.pin (pcfgs (F := F)) adm) cellOf_inj) (Pipeline.launchToks (Pipeline.pin (pcfgs (F := F)) adm) cellOf_inj),
    launchOf barCells scCells allToks)

/-- A resource parked on device 0, as a family over the devices. -/
def parked (X : sProp 𝕄) (c : Dev nD) : sProp 𝕄 := if c = 0 then X else iprop(emp)
/-- A resource parked with one device is the resource. -/
theorem parked_all (X : sProp 𝕄) : bigSep Finset.univ (parked X) = X := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

/-- The protocol at launch, parked with one device. -/
def G : Dev nD → sProp 𝕄 := parked (BI.own (ER (launchOf barCells scCells allToks)))

/-- What stays with device `c` of the exchange: its barrier's position, the rights to open its own cells, the rights to pay. -/
def linear (c : Dev nD) : sProp 𝕄 :=
  iprop(atPos ER (barCell c) 0 ∅ 0 ∗ (bigSep Finset.univ fun i : Fin 24 => openTok ER ((c : Thread nD τ), osem i)) ∗ rights c)

/-- The rest of what a core holds at launch. -/
def bundle (c : Dev nD) : sProp 𝕄 :=
  iprop(StableHlo.held (c : Thread nD τ) bufs (fun b => m (c, b)) ∗ dues c ∗ owing c (O₀ c) ∗ ∃ r, prngReg c r)

/-- What a device starts from. -/
abbrev T₀ (c : Dev nD) : sProp 𝕄 := iprop(StableHlo.held (c : Thread nD τ) bufs (fun b => m (c, b)) ∗ R m c)
/-- What a device ends with. -/
abbrev Tₙ (c : Dev nD) : sProp 𝕄 := iprop(StableHlo.held (c : Thread nD τ) bufs (W2 m c) ∗ semVal (barCell c) 0)

/-- The dealt shares make what each device starts from. -/
theorem T₀_intro (K : GSem nD τ sig → ℕ) (c : Dev nD) : iprop(records m K ∗ (linear c ∗ bundle m c)) ⊢ T₀ m c := by
  unfold linear bundle T₀ R dealt
  iintro ⟨#HR, ⟨HA, Ho, HT⟩, Hh, HC, HO, Hp⟩
  isplitl [Hh]; · iexact Hh
  isplitr [HO]
  · isplitr [Hp]
    · isplitr; · iexists K; iexact HR
      isplitl [Ho]; · iexact Ho
      isplitl [HT]; · iexact HT
      isplitl [HC]; · iexact HC
      iexact HA
    iexact Hp
  iexact HO

/-- A device's own resources at launch, gathered. -/
theorem core_start (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ (semVal (barCell c) 0 ∗ G c)) : sProp 𝕄) := by
  rw [show unscopedBufs c (fun b => m ((c : Thread nD τ).loc b)) = StableHlo.held (c : Thread nD τ) bufs (fun b => m (c, b)) from unscopedBufs_held c (fun b => m (c, b)),
    unscopedSems0_bar]
  unfold bundle owing
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexists ∅; iexact HO
    iexists (ρ c); iexact Hp
  isplitl [Hus] <;> iassumption

/-- The cells' invariants allocated and everything dealt. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hop : bigSep scCells (fun g => (openTok ER g : sProp 𝕄))
      ⊢ bigSep Finset.univ (fun c : Dev nD => bigSep Finset.univ fun i : Fin 24 => openTok ER ((c : Thread nD τ), osem i)) :=
    Entails.of_eq (by rw [bigSep_map, bigSep_univ_prod]; rfl)
  have hlin : iprop(bigSep Finset.univ (fun c : Dev nD => (atPos ER (barCell c) 0 ∅ 0 : sProp 𝕄))
      ∗ bigSep Finset.univ (fun c : Dev nD => bigSep Finset.univ fun i : Fin 24 => openTok ER ((c : Thread nD τ), osem i))
      ∗ bigSep Finset.univ (fun c : Dev nD => rights c)) ⊢ (bigSep Finset.univ fun c : Dev nD => linear c : sProp 𝕄) := by
    unfold linear; rw [bigSep_sep', bigSep_sep']
  have hcore : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (iprop((bigSep Finset.univ fun c : Dev nD => bundle m c) ∗ (bigSep Finset.univ fun c : Dev nD => semVal (barCell c) 0) ∗ bigSep Finset.univ G) : sProp 𝕄) :=
    by
    have h1 := bigSep_mono (s := (Finset.univ : Finset (Dev nD))) fun c _ => core_start m ρ c
    rw [bigSep_sep' Finset.univ (fun c : Dev nD => bundle m c), bigSep_sep' Finset.univ (fun c : Dev nD => (semVal (barCell c) 0 : sProp 𝕄))] at h1
    exact h1
  have hfin (K : GSem nD τ sig → ℕ) : (iprop(records m K ∗ (bigSep Finset.univ fun c : Dev nD => iprop(linear c ∗ bundle m c))) : sProp 𝕄) ⊢ bigSep Finset.univ (T₀ m) :=
    bigSep_with_persistent (R := records m K) (Φ := fun c => iprop(linear c ∗ bundle m c)) fun c _ => T₀_intro m K c
  iintro ⟨H, -⟩
  ihave H' := hcore $$ H
  icases H' with ⟨HB, Hv, HG⟩
  ihave Hu := (show bigSep Finset.univ (G (F := F)) ⊢ BI.own (ER (launchOf barCells scCells allToks)) from
    Entails.of_eq (parked_all (F := F) (BI.own (ER (launchOf barCells scCells allToks))))) $$ HG
  imod (Rounds.fund_launch ER (rd m) disjoint_cells (fun g _ h => h) allToks) $$ [Hv Hu] with ⟨%K, -, #Hinv, #Hr, Hat, Hopen, Htok⟩
  · isplitl [Hv]
    · iapply hv $$ Hv
    · iexact Hu
  imodintro
  iapply (hfin K)
  isplitr
  · unfold records
    isplitr; · iexact Hinv
    iexact Hr
  iapply (Entails.of_eq (bigSep_sep' Finset.univ (fun c : Dev nD => (linear c : sProp 𝕄)) (fun c => bundle m c)).symm)
  isplitr [HB]
  · iapply hlin
    isplitl [Hat]; · iapply hat $$ Hat
    isplitl [Hopen]; · iapply hop $$ Hopen
    iapply (toks_around (F := F))
    iapply (toks_all (F := F)) $$ Htok
  · iexact HB

/-- The ids are as launched. -/
theorem W2_arg0 (c : Dev nD) : W2 m c (Proc.devRef .tc main_arg0) = m ((c : Thread nD τ).loc main_arg0) :=
  (W2_ne m c (by decide)).trans (V_main_arg0 m c)
/-- The table is as launched. -/
theorem W2_arg1 (c : Dev nD) : W2 m c (Proc.devRef .tc main_arg1) = m ((c : Thread nD τ).loc main_arg1) :=
  (W2_ne m c (by decide)).trans (V_main_arg1 m c)

/-- Only the barrier outlives the call. -/
theorem unscoped_eq : ∀ sm : SemLoc sig, sm.isScoped .tc = false → sm = .reg barS := by decide

set_option backward.isDefEq.respectTransparency.types false in
/-- The run: from any memory with zero counters every weakly fair execution on the four devices terminates; every final state has
    the arguments unchanged, on each device the assembled result, and every semaphore counter at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v2) = outC m c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [parked_all]; iexact HX)
    (T₀ := T₀ m) (Tₙ := Tₙ m)
    (hch := ⟨fun c => .rfl, fun c => reg0_pre m c, fun c => reg0_post m c⟩)
    (hinit := init m ρ)
    (QY := fun c s => (s.mem ((c : Thread nD τ).loc main_arg0) = W2 m c (Proc.devRef .tc main_arg0)
        ∧ s.mem ((c : Thread nD τ).loc main_arg1) = W2 m c (Proc.devRef .tc main_arg1)
        ∧ s.mem ((c : Thread nD τ).loc main_v2) = W2 m c (Proc.devRef .tc main_v2))
      ∧ s.sem (barCell c) = 0)
    (hfin := fun c s' => by
      dsimp only [Tₙ]; rw [held_bufs]
      iintro ⟨⟨⟨H0, H1, -, H2⟩, Hb0⟩, HSI⟩
      icombine HSI H0 gives %h0
      icombine HSI H1 gives %h1
      icombine HSI H2 gives %h2
      icombine HSI Hb0 gives %hb
      imodintro
      isplitr
      · ipureintro
        exact ⟨⟨Buf.eq_of_forall_mem_univ h0, Buf.eq_of_forall_mem_univ h1, Buf.eq_of_forall_mem_univ h2⟩, by simpa using hb⟩
      iexact HSI)
    (hQ := fun s h hs => ⟨fun c => by
        obtain ⟨⟨h0, h1, h2⟩, -⟩ := h c
        exact ⟨h0.trans (W2_arg0 m c), h1.trans (W2_arg1 m c), h2.trans (W2_out m c)⟩,
      sem_eq_zero hs fun c sm hsm => by
        obtain rfl := unscoped_eq sm hsm
        exact (h c).2⟩)

end Cert.EmbedProof

end
-- ==== Proof.Value.lean ====
module

public import proofs.«01_k».proof.Proof.Windows
public import Idealize.ShloMosaic.Lib.ValueIdx
public import Idealize.ShloMosaic.Lib.ValueLayout
public import Idealize.ShloMosaic.Lib.MatmulPlain
public import Idealize.ShloMosaic.Lib.Pipeline.Value

@[expose] public section

noncomputable section

namespace Cert.EmbedProof

open Cert.KernelIdeal Cert.KernelIdeal.Gen
open Idealize.ShloMosaic Idealize.ShloMosaic.TcCoe Idealize.ShloMosaic.ValueIdx
open scoped BigOperators

/-! ## One chunk: a one-hot product is a lookup -/

/-- Row `w` of a half table, `0` where `w` names none of its rows. -/
def lookup (E : FVec Ideal S4096x512 .f32) (w : BitVec 32) (j : Fin 512) : EReal :=
  if h : w.toNat < 4096 then E (ix2 ⟨w.toNat, h⟩ j) else 0

/-- The one-hot entry: `1` where the row number is the id, `0` elsewhere. -/
theorem hot_val (w : BitVec 32) (k : Fin 4096) :
    (FloatOps.sitofp (F := Ideal) .f32 ((IntOp.cmpi .eq w (BitVec.ofNat 32 k.val)).setWidth 32) : EReal) = if w.toNat = k.val then 1 else 0 := by
  have hk : k.val < 4096 := k.isLt
  have e : (w = BitVec.ofNat 32 k.val) ↔ w.toNat = k.val := by
    constructor
    · rintro rfl; exact Nat.mod_eq_of_lt (by omega)
    · intro h; apply BitVec.eq_of_toNat_eq; rw [h]; exact (Nat.mod_eq_of_lt (by omega)).symm
  show ((((IntOp.cmpi .eq w (BitVec.ofNat 32 k.val)).setWidth 32).toInt : ℝ) : EReal) = _
  by_cases h : w.toNat = k.val
  · rw [if_pos h, show IntOp.cmpi .eq w (BitVec.ofNat 32 k.val) = 1#1 by
      unfold IntOp.cmpi; rw [e.mpr h]; simp]
    norm_num
  · rw [if_neg h, show IntOp.cmpi .eq w (BitVec.ofNat 32 k.val) = 0#1 by
      unfold IntOp.cmpi; simp only [beq_eq_false_iff_ne.mpr (mt e.mp h)]; rfl]
    norm_num

/-- Summing a table's rows against a one-hot row picks the row out. -/
theorem hot_sum (E : FVec Ideal S4096x512 .f32) (w : BitVec 32) (j : Fin 512) :
    ∑ k : Fin 4096, (if w.toNat = k.val then (1 : EReal) else 0) * E (ix2 k j) = lookup E w j := by
  unfold lookup
  by_cases h : w.toNat < 4096
  · rw [dif_pos h, Finset.sum_eq_single (⟨w.toNat, h⟩ : Fin 4096)]
    · rw [if_pos rfl, one_mul]
    · intro k _ hk
      rw [if_neg fun e => hk (Fin.ext e.symm), zero_mul]
    · intro hn; exact absurd (Finset.mem_univ _) hn
  · rw [dif_neg h]
    refine Finset.sum_eq_zero fun k _ => ?_
    rw [if_neg (by have := k.isLt; omega), zero_mul]

/-- The id a device looks up in its half: less the half's first row. -/
abbrev loc (y w : BitVec 32) : BitVec 32 := w - y * 4096#32

/-- A chunk's product with the half table, one entry. -/
theorem dot_apply (A : FVec Ideal S64x4096 .bf16) (B : FVec Ideal S4096x512 .bf16) (r : Fin 64) (j : Fin 512) :
    matmul dot_S64x4096_S4096x512_S64x512_1_0_0_1_n_n none A B (constant (F := Ideal) S64x512 .f32 0x00000000#32) (ix2 r j)
      = ∑ k : Fin 4096, (A (ix2 r k) * B (ix2 k j) : EReal) := by
  have h := Ideal.matmul_plain_apply none A B (constant (F := Ideal) S64x512 .f32 0x00000000#32) r j
  rw [constant_apply, Ideal.ofBits_zero_f32, zero_add] at h
  exact h

/-- The ids less the half's first row, laid along the lanes. -/
theorem loc_apply (y : BitVec 32) (I : IVec S64x1 32) (r : Fin 64) (k : Fin 4096) :
    broadcastTo S64x4096 (subi (shapeCast S64x1 I shapeCasts_S64x1_S64x1) (broadcast S64x1 (Scalar.muli y 4096#32))) broadcasts_S64x1_S64x4096 (ix2 r k)
      = loc y (I (ix2 r (0 : Fin 1))) := by
  refine (broadcastTo_apply _ _ (ix2 r k) (ix2 r (0 : Fin 1)) ?_).trans ?_
  · intro a
    match a with
    | ⟨0, _⟩ => rfl
    | ⟨1, _⟩ => rfl
  · rw [shapeCast_self]
    rfl

/-- One entry of the one-hot matrix. -/
theorem hot_apply (w : IVec S64x4096 32) (v : BitVec 32) (r : Fin 64) (k : Fin 4096) (hv : w (ix2 r k) = v) :
    (truncf .bf16 (sitofp (F := Ideal) .f32 (extui 32 (cmpi .eq w (iota .tc S64x4096 32 [1] iota_S64x4096_d1_w32)) natLt_1_32)) bitsLt_bf16_f32 : FVec Ideal S64x4096 .bf16) (ix2 r k)
      = (if v.toNat = k.val then (1 : EReal) else 0) := by
  rw [truncf_apply, sitofp_apply, extui_apply, ← hot_val, ← hv]
  have e : iota .tc S64x4096 32 [1] iota_S64x4096_d1_w32 (ix2 r k) = BitVec.ofNat 32 k.val :=
    congrArg (BitVec.ofNat 32) (show (0 * 4096 + k.val : ℕ) = k.val by omega)
  rw [← e]
  rfl

/-- One entry of the one-hot product. -/
theorem pay2_apply (y : BitVec 32) (E : FVec Ideal S4096x512 .f32) (I : IVec S64x1 32) (r : Fin 64) (j : Fin 512) :
    k0_pay2 (F := Ideal) y E I (ix2 r j) = lookup E (loc y (I (ix2 r (0 : Fin 1)))) j := by
  rw [← hot_sum]
  refine (dot_apply _ _ r j).trans (Finset.sum_congr rfl fun k _ => ?_)
  rw [hot_apply _ _ r k (loc_apply y I r k)]
  rfl

/-! ## What each device looks up -/

variable (m : (ℓ : Loc nD τ sig) → Buf (Elt Ideal) ℓ)

/-- The ids as launched on device `c`. -/
def idv (c : Dev nD) (i : Fin 512) : BitVec 32 := (m ((c : Thread nD τ).loc main_arg0) : IVec S512 32) (ix1 i)

/-- Where chunk `k` of device `c`'s ids starts. -/
theorem off_ids : ∀ (c : Dev nD) (k : Fin 4), k0_off1 c (BitVec.ofNat 32 (64 * k.val)) = ![64 * (4 * hx c + k.val), 0] := by decide

/-- The column of ids that the kernel is given is the argument, reshaped. -/
theorem V_ids (c : Dev nD) : (V m c main_v1 : IVec S512x1 32) = shapeCast S512x1 (m ((c : Thread nD τ).loc main_arg0) : IVec S512 32) shapeCasts_S512_S512x1 := by
  rfl

/-- Entry `i` of the column of ids is id `i`. -/
theorem ids_apply (c : Dev nD) (i : Fin 512) : (ids m c : IVec S512x1 32) (ix2 i (0 : Fin 1)) = idv m c i := by
  have h : (ids m c : IVec S512x1 32) = V m c main_v1 := by
    funext j
    show V m c main_v1 _ = V m c main_v1 _
    congr 1
    funext a
    apply Fin.ext
    match a with
    | ⟨0, _⟩ => show 0 * 512 + 1 * (j 0).val = (j 0).val; omega
    | ⟨1, _⟩ => show 0 * 1 + 1 * (j 1).val = (j 1).val; omega
  rw [h, V_ids]
  refine shapeCast_apply _ _ _ (ix1 i) ?_
  rw [Shape.rowMajor_val_two, Shape.rowMajor_val_one]
  show i.val = i.val * 1 + 0
  omega

/-- Row `r` of chunk `k` is a row of the result. -/
theorem row_lt {c : Dev nD} {k : ℕ} (hk : k < 4) (r : Fin 64) : 64 * (4 * hx c + k) + r.val < 512 := by
  have := mine_lt c hk; have := r.isLt; omega

/-- Entry `r` of a chunk's ids is the id of that row. -/
theorem idsAt_apply (c : Dev nD) {k : ℕ} (hk : k < 4) (r : Fin 64) :
    (idsAt m c hk : IVec S64x1 32) (ix2 r (0 : Fin 1)) = idv m c ⟨64 * (4 * hx c + k) + r.val, row_lt hk r⟩ := by
  rw [← ids_apply]
  show (ids m c : IVec S512x1 32) ((idsR c hk).emb (ix2 r (0 : Fin 1))) = _
  congr 1
  funext a
  apply Fin.ext
  have h := off_ids c ⟨k, hk⟩
  match a with
  | ⟨0, _⟩ =>
    show k0_off1 c (BitVec.ofNat 32 (64 * k)) 0 + 1 * r.val = 64 * (4 * hx c + k) + r.val
    rw [show k0_off1 c (BitVec.ofNat 32 (64 * k)) 0 = 64 * (4 * hx c + k) from congrFun h 0]
    omega
  | ⟨1, _⟩ =>
    show k0_off1 c (BitVec.ofNat 32 (64 * k)) 1 + 1 * 0 = 0
    rw [show k0_off1 c (BitVec.ofNat 32 (64 * k)) 1 = 0 from congrFun h 1]

/-- One entry of what device `c` finds in its half. -/
theorem part_apply (c : Dev nD) {k : ℕ} (hk : k < 4) (r : Fin 64) (j : Fin 512) :
    part m c hk (ix2 r j) = lookup (tab m c) (loc (yw c) (idv m c ⟨64 * (4 * hx c + k) + r.val, row_lt hk r⟩)) j := by
  rw [← idsAt_apply]
  exact pay2_apply _ _ _ r j

/-- What is sent along `y` is, over exact values, the partial rows. -/
theorem partB_apply (c : Dev nD) {k : ℕ} (hk : k < 4) (r : Fin 64) (j : Fin 512) :
    (partB m c hk : FVec Ideal S1x64x512 .bf16) (ix3 (0 : Fin 1) r j) = (part m c hk (ix2 r j) : EReal) := by
  unfold partB k0_pay6
  exact shapeCast_ab_1ab_apply _ _ (0 : Fin 1) r j

/-- One entry of the sum of own and received rows. -/
theorem pay10_apply (A : FVec Ideal S64x512 .f32) (B : FVec Ideal S1x64x512 .bf16) (r : Fin 64) (j : Fin 512) :
    (k0_pay10 (F := Ideal) A B (ix2 r j) : EReal) = (A (ix2 r j) : EReal) + B (ix3 (0 : Fin 1) r j) := by
  unfold k0_pay10
  rw [addf_apply, extf_apply, shapeCast_self]
  exact congrArg ((A (ix2 r j) : EReal) + ·) (shapeCast_1ab_ab_apply B _ r j)

/-- The sum over the two halves, one entry. -/
theorem red_apply (c : Dev nD) {k : ℕ} (hk : k < 4) (r : Fin 64) (j : Fin 512) :
    (red m c hk (ix2 r j) : EReal) = (part m c hk (ix2 r j) : EReal) + part m (yp c) hk (ix2 r j) := by
  unfold red
  rw [pay10_apply, partB_apply]

/-- What comes along `x`, one entry. -/
theorem far_apply (c : Dev nD) {k : ℕ} (hk : k < 4) (r : Fin 64) (j : Fin 512) :
    (far m c hk (ix2 r j) : EReal) = red m (xp c) hk (ix2 r j) := by
  unfold far k0_pay20
  rw [extf_apply]
  refine (shapeCast_1ab_ab_apply (redB m (xp c) hk) _ r j).trans ?_
  unfold redB k0_pay12
  exact shapeCast_ab_1ab_apply _ _ (0 : Fin 1) r j

end Cert.EmbedProof

end
-- ==== Proof.Answer.lean ====
module

public import proofs.«01_k».proof.Proof.Value
public import proofs.«01_k».proof.Defs
public import proofs.«01_k».proof.Proof.Gen.ReferenceIdeal
public import Idealize.ShloMosaic.Lib.ReduceAll
public import Idealize.ShloMosaic.Lib.Routing.Ops

@[expose] public section

noncomputable section

namespace Cert.EmbedProof

open Cert.KernelIdeal Cert.KernelIdeal.Gen
open Idealize.ShloMosaic Idealize.ShloMosaic.TcCoe Idealize.ShloMosaic.ValueIdx
open scoped BigOperators

/-! ## The two halves of the table give the row -/

/-- The whole table's shape. -/
abbrev S8192x512 : Shape := ⟨2, ![8192, 512]⟩

/-- An id less the first row of half `y` is a row of that half exactly when the id is in the half. -/
theorem loc_toNat {w : BitVec 32} (hw : w.toNat < 8192) {y : ℕ} (hy : y < 2) :
    (loc (BitVec.ofNat 32 y) w).toNat < 4096 ↔ w.toNat / 4096 = y := by
  have h : y = 0 ∨ y = 1 := by omega
  rcases h with rfl | rfl
  · show (w - 0#32).toNat < 4096 ↔ _
    rw [BitVec.sub_zero]; omega
  · show (w - 4096#32).toNat < 4096 ↔ _
    rw [BitVec.toNat_sub, show (4096#32 : BitVec 32).toNat = 4096 from rfl]; omega
/-- There it is the id's place in the half. -/
theorem loc_val {w : BitVec 32} (hw : w.toNat < 8192) {y : ℕ} (hy : y < 2) (h : w.toNat / 4096 = y) :
    4096 * y + (loc (BitVec.ofNat 32 y) w).toNat = w.toNat := by
  have h' : y = 0 ∨ y = 1 := by omega
  rcases h' with rfl | rfl
  · show 4096 * 0 + (w - 0#32).toNat = _
    rw [BitVec.sub_zero]; omega
  · show 4096 * 1 + (w - 4096#32).toNat = _
    rw [BitVec.toNat_sub, show (4096#32 : BitVec 32).toNat = 4096 from rfl]; omega

/-- Row `k` of half `y` is a row of the whole table. -/
theorem half_lt {y : ℕ} (hy : y < 2) (k : Fin 4096) : 4096 * y + k.val < 8192 := by have := k.isLt; omega

/-- A lookup in half `y` of a table: the table's row where the id is in that half, else `0`. -/
theorem lookup_half (E : S8192x512.Idx → EReal) (H : FVec Ideal S4096x512 .f32) {y : ℕ} (hy : y < 2)
    (hH : ∀ (k : Fin 4096) (j : Fin 512), H (ix2 k j) = E (ix2 ⟨4096 * y + k.val, half_lt hy k⟩ j))
    {w : BitVec 32} (hw : w.toNat < 8192) (j : Fin 512) :
    lookup H (loc (BitVec.ofNat 32 y) w) j = if w.toNat / 4096 = y then E (ix2 ⟨w.toNat, hw⟩ j) else 0 := by
  unfold lookup
  by_cases h : w.toNat / 4096 = y
  · rw [if_pos h, dif_pos ((loc_toNat hw hy).mpr h), hH]
    refine congrArg (fun a => E (ix2 a j)) (Fin.ext ?_)
    exact loc_val hw hy h
  · rw [if_neg h, dif_neg (mt (loc_toNat hw hy).mp h)]

/-- A device's place along `y`, as the kernel computes it. -/
theorem yw_eq : ∀ c : Dev nD, yw c = BitVec.ofNat 32 (c.val % 2) := by decide
/-- The peer along `y` holds the other half of the table. -/
theorem yp_mod : ∀ c : Dev nD, (yp c).val % 2 = 1 - c.val % 2 := by decide
/-- Peers along `y` serve the same half of the tokens. -/
theorem hx_yp : ∀ c : Dev nD, hx (yp c) = hx c := by decide
/-- Peers along `x` serve different halves of the tokens. -/
theorem hx_xp : ∀ c : Dev nD, hx (xp c) = 1 - hx c := by decide
/-- There are two halves of tokens. -/
theorem hx_lt : ∀ c : Dev nD, hx c < 2 := by decide

variable (m : (ℓ : Loc nD τ sig) → Buf (Elt Ideal) ℓ)

/-- What the launch holds: on every device the ids `w`, each a row number of the table `E`, and the device's half of `E`. -/
structure Launched (w : Fin 512 → BitVec 32) (E : S8192x512.Idx → EReal) : Prop where
  ids : ∀ c i, idv m c i = w i
  tab : ∀ (c : Dev nD) (k : Fin 4096) (j : Fin 512),
    (tab m c : FVec Ideal S4096x512 .f32) (ix2 k j) = E (ix2 ⟨4096 * (c.val % 2) + k.val, half_lt (Nat.mod_lt _ (by decide)) k⟩ j)
  lt : ∀ i, (w i).toNat < 8192

/-- An entry of the result is an entry of its chunk of 64 rows. -/
theorem outC_apply (c : Dev nD) (i j : Fin 512) :
    (outC m c : FVec Ideal S512x512 .f32) (ix2 i j) = chunk m c (i.val / 64) (ix2 ⟨i.val % 64, Nat.mod_lt _ (by decide)⟩ j) := by
  unfold outC
  refine congrArg (chunk m c (i.val / 64)) (funext fun a => ?_)
  match a with
  | ⟨0, _⟩ => rfl
  | ⟨1, _⟩ => rfl

section
variable {m} {w : Fin 512 → BitVec 32} {E : S8192x512.Idx → EReal} (hL : Launched m w E)
include hL

/-- What a device finds of id `i`: the row, if its half has it. -/
theorem part_row (c : Dev nD) {k : ℕ} (hk : k < 4) (r : Fin 64) (j : Fin 512) {i : Fin 512} (hi : 64 * (4 * hx c + k) + r.val = i.val) :
    (part m c hk (ix2 r j) : EReal) = if (w i).toNat / 4096 = c.val % 2 then E (ix2 ⟨(w i).toNat, hL.lt i⟩ j) else 0 := by
  obtain rfl : i = ⟨64 * (4 * hx c + k) + r.val, row_lt hk r⟩ := Fin.ext hi.symm
  rw [part_apply, yw_eq, hL.ids]
  exact lookup_half E _ (Nat.mod_lt _ (by decide)) (hL.tab c) (hL.lt _) j

/-- The sum over the two halves is the row. -/
theorem red_row (c : Dev nD) {k : ℕ} (hk : k < 4) (r : Fin 64) (j : Fin 512) {i : Fin 512} (hi : 64 * (4 * hx c + k) + r.val = i.val) :
    (red m c hk (ix2 r j) : EReal) = E (ix2 ⟨(w i).toNat, hL.lt i⟩ j) := by
  rw [red_apply, part_row hL c hk r j hi, part_row hL (yp c) hk r j (i := i) (by rw [hx_yp]; exact hi), yp_mod]
  have h := hL.lt i
  by_cases h0 : (w i).toNat / 4096 = c.val % 2
  · rw [if_pos h0, if_neg (by omega), add_zero]
  · rw [if_neg h0, if_pos (by omega), zero_add]

/-- Every device ends with the table's row of every id. -/
theorem out_row (c : Dev nD) (i j : Fin 512) :
    (outC m c : FVec Ideal S512x512 .f32) (ix2 i j) = E (ix2 ⟨(w i).toNat, hL.lt i⟩ j) := by
  have hi := i.isLt
  have hc := hx_lt c
  rw [outC_apply]
  unfold chunk
  by_cases h : i.val / 64 / 4 = hx c
  · rw [if_pos h]
    refine red_row hL c _ _ j ?_
    show 64 * (4 * hx c + i.val / 64 % 4) + i.val % 64 = i.val
    omega
  · rw [if_neg h]
    refine (far_apply m c _ _ j).trans (red_row hL (xp c) _ _ j ?_)
    show 64 * (4 * hx (xp c) + i.val / 64 % 4) + i.val % 64 = i.val
    rw [hx_xp]; omega
end

/-! ## The precondition and the reference -/

/-- A conjunction of bits is `1` only if both are. -/
theorem one_of_and {a b : BitVec 1} (h : IntOp.andi a b = 1#1) : a = 1#1 ∧ b = 1#1 := by
  revert a b; decide

/-- A word between `0` and `8192`, read signed, is below `8192`. -/
theorem word_lt {w : BitVec 32} (h0 : IntOp.cmpi .sge w 0#32 = 1#1) (h1 : IntOp.cmpi .slt w 8192#32 = 1#1) : w.toNat < 8192 := by
  have e0 : (0#32 : BitVec 32).sle w = true := by
    revert h0; show BitVec.ofBool ((0#32 : BitVec 32).sle w) = 1#1 → _
    cases (0#32 : BitVec 32).sle w <;> decide
  have e1 : w.slt 8192#32 = true := by
    revert h1; show BitVec.ofBool (w.slt 8192#32) = 1#1 → _
    cases w.slt 8192#32 <;> decide
  rw [BitVec.sle_iff_toInt_le] at e0
  rw [BitVec.slt_iff_toInt_lt] at e1
  have z : (0#32 : BitVec 32).toInt = 0 := rfl
  have t : (8192#32 : BitVec 32).toInt = 8192 := rfl
  rw [z] at e0; rw [t] at e1
  rw [BitVec.toInt_eq_toNat_cond] at e0 e1
  split at e0 <;> omega

/-- The precondition bounds every id. -/
theorem ids_lt [Cert.Pre_in_table_KernelIdeal.Facts] (I : IVec S512 32) (T : FVec Ideal S4096x512 .f32)
    (h : Cert.Pre_in_table_KernelIdeal.fn (F := Ideal) I T = fun _ => 1#1) (i : Fin 512) : (I (ix1 i)).toNat < 8192 := by
  have hs : Subsingleton (Cert.Pre_in_table_KernelIdeal.S_).Idx := ⟨fun a b => funext fun x => x.elim0⟩
  have h1 := one_of_and (Host.reduce_andi_all _ _ _ _ ix0 (congrFun h ix0) (ix1 i))
  exact word_lt h1.1 h1.2

/-- A word below `8192` is not negative. -/
theorem not_neg {w : BitVec 32} (h : w.toNat < 8192) : IntOp.cmpi .slt w 0#32 = 0#1 := by
  have e : w.slt 0#32 = false := by
    rw [Bool.eq_false_iff]
    intro hn
    rw [BitVec.slt_iff_toInt_lt, BitVec.toInt_eq_toNat_cond, show (0#32 : BitVec 32).toInt = 0 from rfl] at hn
    split at hn <;> omega
  show BitVec.ofBool (w.slt 0#32) = 0#1
  rw [e]; rfl

/-- The reference, one entry: the table's row of the id. -/
theorem ref_row [Cert.ReferenceIdeal.Facts] (I : IVec S512 32) (E : S8192x512.Idx → EReal) (i j : Fin 512) (h : (I (ix1 i)).toNat < 8192)
    (h0 : Cert.ReferenceIdeal.S_.BroadcastsInDim S512 ![]) (h1 : S512.BroadcastsInDim S512x1 ![0]) :
    Host.gather Cert.ReferenceIdeal.gather_S8192x512_S512x1_S512x512_1_0_n_n_0_1_1512 E
      (broadcastInDim S512x1 ![0] h1
        (select (cmpi .slt I (broadcastInDim S512 ![] h0 (constantI Cert.ReferenceIdeal.S_ 32 0#32)))
          (addi I (broadcastInDim S512 ![] h0 (constantI Cert.ReferenceIdeal.S_ 32 8192#32))) I)) (ix2 i j)
      = E (ix2 ⟨(I (ix1 i)).toNat, h⟩ j) := by
  refine Routing.gather_row _ rfl rfl rfl rfl rfl E _ i j ⟨(I (ix1 i)).toNat, h⟩ ?_ (by decide)
  refine (broadcastInDim_apply _ _ _ (ix2 i (0 : Fin 1)) (ix1 i) ?_).trans ?_
  · intro a
    match a with
    | ⟨0, _⟩ => rfl
  · rw [select_apply]
    have e : cmpi .slt I (broadcastInDim S512 ![] h0 (constantI Cert.ReferenceIdeal.S_ 32 0#32)) (ix1 i) = 0#1 := not_neg h
    rw [e, select_zero]
    exact BitVec.eq_of_toNat_eq (Nat.mod_eq_of_lt (I (ix1 i)).isLt).symm

/-- Device `c`'s block of a table cut in two along its rows is half `c % 2`. -/
theorem block_row (c : Dev nD) (E : S8192x512.Idx → EReal) (k : Fin 4096) (j : Fin 512) :
    (Layout.blockN ⟨2, ![4096, 512]⟩ ⟨2, ![8192, 512]⟩ (Layout.meshBlock [2, 2] ![[1], []] c) E : S4096x512.Idx → EReal) (ix2 k j)
      = E (ix2 ⟨4096 * (c.val % 2) + k.val, half_lt (Nat.mod_lt _ (by decide)) k⟩ j) := by
  rw [Layout.blockN_apply]
  refine congrArg E (funext fun a => Fin.ext ?_)
  rw [Layout.TilesN.idx_val]
  have h : ∀ c : Dev nD, Layout.meshLin [2, 2] c.val [1] = c.val % 2 := by decide
  match a with
  | ⟨0, _⟩ =>
    show Layout.meshLin [2, 2] c.val [1] * 4096 + k.val = 4096 * (c.val % 2) + k.val
    rw [h]; omega
  | ⟨1, _⟩ =>
    show 0 * 512 + j.val = j.val
    omega

end Cert.EmbedProof

end
-- ==== Proof.lean ====
module

public import proofs.«01_k».proof.Defs
public import proofs.«01_k».proof.Proof.Gen.Kernel
public import proofs.«01_k».proof.Proof.Gen.KernelIdeal
public import proofs.«01_k».proof.Proof.Launch
public import proofs.«01_k».proof.Proof.Answer
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

/-- The kernel over any float values: every run of the four devices stops with both arguments as
they were and every semaphore at zero. -/
theorem frame_any {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
        ∧ r.2.sem = fun _ => 0) :=
  (θ_run Cert.KernelIdeal.defs _ _).mono
    (fun _ h => ⟨fun c => ⟨(h.1 c).1, (h.1 c).2.1⟩, h.2⟩)
    (Cert.EmbedProof.run_main m ρ)

/-- The two printed programs run the same bodies. -/
theorem body_same {F : FTy → Type} [FloatOps F] :
    Cert.Kernel.defs₀ (F := F) = Cert.KernelIdeal.defs₀ (F := F) := by
  unfold Cert.Kernel.defs₀ Cert.KernelIdeal.defs₀
  refine congrArg (Defs.onTc (Λ := Cert.Kernel.Λ₀)) ?_
  funext l a
  match l, a with
  | ⟨0, _⟩, (t, s) => rfl

/-- The two printed programs have the same body table. -/
theorem defs_same {F : FTy → Type} [FloatOps F] :
    Cert.Kernel.defs (F := F) = Cert.KernelIdeal.defs (F := F) :=
  congrArg (Pipeline.defs Cert.Kernel.pcfgs) body_same

/-- The kernel over machine words leaves its arguments and its semaphores as they were. -/
theorem frame_kernel : Cert.quiescent_Kernel := fun m ρ _ => by
  rw [defs_same]
  exact frame_any (F := Bits) m ρ

/-- The same over exact values. -/
theorem frame_kernelIdeal : Cert.quiescent_KernelIdeal := fun m ρ _ => frame_any (F := Ideal) m ρ

/-- The precondition's side conditions, on a device's arguments and on the whole ones. -/
instance pre_facts : Cert.Pre_in_table_KernelIdeal.Facts := by constructor <;> decide
instance pre_facts_whole : Cert.Pre_in_table_ReferenceIdeal.Facts := by constructor <;> decide

/-- The precondition changes nothing in the frame. -/
theorem frame_kernelIdeal_pre : Cert.quiescent_KernelIdeal_pre_in_table_KernelIdeal := fun m ρ _ => frame_any (F := Ideal) m ρ

/-- The reference stops with its arguments as they were and every semaphore at zero. -/
theorem frame_reference : Cert.quiescent_ReferenceIdeal := fun m ρ _ =>
  (θ_run Cert.ReferenceIdeal.defs _ _).mono (fun _ h => ⟨fun c => (h c).2, sem_eq_zero_of_no_sems (by decide) _⟩) (Cert.ReferenceIdeal.Value.run (F := Ideal) m ρ)

/-- The same under the precondition. -/
theorem frame_reference_pre : Cert.quiescent_ReferenceIdeal_pre_in_table_ReferenceIdeal := fun m ρ _ => frame_reference m ρ trivial

/-- Where every id is a row number of the table, every device ends with the reference's result: the table's row of each id. -/
theorem same_result : Cert.algebraic_KernelIdeal_ReferenceIdeal_pre_in_table_KernelIdeal := by
  intro m ρ m' ρ' hpre hin
  have hL : Cert.EmbedProof.Launched m
      (fun i => (m' (((0 : Dev Cert.ReferenceIdeal.nD).tc : Thread Cert.ReferenceIdeal.nD Cert.ReferenceIdeal.τ).loc Cert.ReferenceIdeal.main_arg0) : IVec Cert.KernelIdeal.S512 32) (ValueIdx.ix1 i))
      (m' (((0 : Dev Cert.ReferenceIdeal.nD).tc : Thread Cert.ReferenceIdeal.nD Cert.ReferenceIdeal.τ).loc Cert.ReferenceIdeal.main_arg1)) := by
    refine ⟨fun c i => congrFun (hin c).1 (ValueIdx.ix1 i), fun c k j => ?_, fun i => ?_⟩
    · unfold Cert.EmbedProof.tab
      rw [Cert.KernelIdeal.Gen.V_main_arg1]
      exact (congrFun (hin c).2 (ValueIdx.ix2 k j)).trans (Cert.EmbedProof.block_row c _ k j)
    · rw [← (hin 0).1]
      exact Cert.EmbedProof.ids_lt _ _ (hpre 0) i
  refine ⟨_, (θ_run Cert.KernelIdeal.defs _ _).mono (fun _ h c => ⟨(h.1 c).2.2.trans ?_, (h.1 c).1, (h.1 c).2.1⟩)
      (Cert.EmbedProof.run_main (F := Ideal) m ρ),
    (θ_run Cert.ReferenceIdeal.defs _ _).mono (fun _ h => h 0) (Cert.ReferenceIdeal.Value.run (F := Ideal) m' ρ')⟩
  funext x
  obtain ⟨i, j, rfl⟩ : ∃ i j : Fin 512, x = ValueIdx.ix2 i j := ⟨x 0, x 1, ValueIdx.eq_ix2 x⟩
  exact (Cert.EmbedProof.out_row hL c i j).trans (Cert.EmbedProof.ref_row _ _ i j (hL.lt i) _ _).symm

/-- The claims of this certificate. -/
theorem claim : Cert.Claim :=
  ⟨Cert.Kernel.Gen.facts, Cert.KernelIdeal.Gen.facts, Cert.ReferenceIdeal.Gen.facts, pre_facts, pre_facts_whole,
    frame_kernel, frame_kernelIdeal, frame_kernelIdeal_pre, frame_reference, frame_reference_pre, trivial, same_result⟩

end Cert.Proof

end
